-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S31x8x256 : Shape := ⟨3, ![31, 8, 256]⟩
abbrev S8x256 : Shape := ⟨2, ![8, 256]⟩
abbrev S31 : Shape := ⟨1, ![31]⟩
abbrev S_ : Shape := ⟨0, ![]⟩
abbrev S1 : Shape := ⟨1, ![1]⟩
abbrev S1x8x256 : Shape := ⟨3, ![1, 8, 256]⟩

abbrev nBuf : Space → Nat
  | .hbm => 4
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x256, .f32⟩
  | .local _ .vmem, ⟨4, _⟩ => ⟨S256x256, .f32⟩
  | .local _ .vmem, ⟨5, _⟩ => ⟨S31x8x256, .f32⟩
  | .local _ .vmem, ⟨6, _⟩ => ⟨S8x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c14_i32_289 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v420 : BitVec 32 := Scalar.addi v2 c14_i32_289
  let c32_i32_290 : BitVec 32 := 32#32
  let c0_i32_291 : BitVec 32 := 0#32
  let v421 : BitVec 1 := Scalar.cmpi .eq c32_i32_290 c0_i32_291
  let c1_i32_292 : BitVec 32 := 1#32
  let v422 : BitVec 32 := Scalar.select v421 c1_i32_292 c32_i32_290
  let v423 : BitVec 32 := Scalar.remsi v420 v422
  let c0_i32_294 : BitVec 32 := 0#32
  let v425 : BitVec 1 := Scalar.cmpi .slt v423 c0_i32_294
  let c0_i32_295 : BitVec 32 := 0#32
  let v426 : BitVec 1 := Scalar.cmpi .slt v422 c0_i32_295
  let v427 : BitVec 1 := Scalar.xori v425 v426
  let c0_i32_293 : BitVec 32 := 0#32
  let v424 : BitVec 1 := Scalar.cmpi .ne v423 c0_i32_293
  let v428 : BitVec 1 := Scalar.andi v427 v424
  let v429 : BitVec 32 := Scalar.addi v423 v422
  let v430 : BitVec 32 := Scalar.select v428 v429 v423
  let c8_i32_296 : BitVec 32 := 8#32
  let v431 : BitVec 32 := Scalar.muli v430 c8_i32_296
  let c0_i32_304 : BitVec 32 := 0#32
  ![v431.toNat, 0]
def k0_dev32 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_289 : BitVec 32 := 14#32
  let v420 : BitVec 32 := Scalar.addi v2 c14_i32_289
  let c32_i32_290 : BitVec 32 := 32#32
  let c0_i32_291 : BitVec 32 := 0#32
  let v421 : BitVec 1 := Scalar.cmpi .eq c32_i32_290 c0_i32_291
  let c1_i32_292 : BitVec 32 := 1#32
  let v422 : BitVec 32 := Scalar.select v421 c1_i32_292 c32_i32_290
  let v423 : BitVec 32 := Scalar.remsi v420 v422
  let c0_i32_294 : BitVec 32 := 0#32
  let v425 : BitVec 1 := Scalar.cmpi .slt v423 c0_i32_294
  let c0_i32_295 : BitVec 32 := 0#32
  let v426 : BitVec 1 := Scalar.cmpi .slt v422 c0_i32_295
  let v427 : BitVec 1 := Scalar.xori v425 v426
  let c0_i32_293 : BitVec 32 := 0#32
  let v424 : BitVec 1 := Scalar.cmpi .ne v423 c0_i32_293
  let v428 : BitVec 1 := Scalar.andi v427 v424
  let v429 : BitVec 32 := Scalar.addi v423 v422
  let v430 : BitVec 32 := Scalar.select v428 v429 v423
  let c1_i32_300 : BitVec 32 := 1#32
  let v432 : BitVec 32 := Scalar.muli v430 c1_i32_300
  let v433 : BitVec 32 := Scalar.addi c0_i32_301 v432
  v433.toNat
def k0_dev33 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_305 : BitVec 32 := 18#32
  let v441 : BitVec 32 := Scalar.addi v2 c18_i32_305
  let c32_i32_306 : BitVec 32 := 32#32
  let c0_i32_307 : BitVec 32 := 0#32
  let v442 : BitVec 1 := Scalar.cmpi .eq c32_i32_306 c0_i32_307
  let c1_i32_308 : BitVec 32 := 1#32
  let v443 : BitVec 32 := Scalar.select v442 c1_i32_308 c32_i32_306
  let v444 : BitVec 32 := Scalar.remsi v441 v443
  let c0_i32_310 : BitVec 32 := 0#32
  let v446 : BitVec 1 := Scalar.cmpi .slt v444 c0_i32_310
  let c0_i32_311 : BitVec 32 := 0#32
  let v447 : BitVec 1 := Scalar.cmpi .slt v443 c0_i32_311
  let v448 : BitVec 1 := Scalar.xori v446 v447
  let c0_i32_309 : BitVec 32 := 0#32
  let v445 : BitVec 1 := Scalar.cmpi .ne v444 c0_i32_309
  let v449 : BitVec 1 := Scalar.andi v448 v445
  let v450 : BitVec 32 := Scalar.addi v444 v443
  let v451 : BitVec 32 := Scalar.select v449 v450 v444
  let c1_i32_316 : BitVec 32 := 1#32
  let v453 : BitVec 32 := Scalar.muli v451 c1_i32_316
  let v454 : BitVec 32 := Scalar.addi c0_i32_317 v453
  v454.toNat
def k0_dev34 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_321 : BitVec 32 := 10#32
  let v462 : BitVec 32 := Scalar.addi v2 c10_i32_321
  let c32_i32_322 : BitVec 32 := 32#32
  let c0_i32_323 : BitVec 32 := 0#32
  let v463 : BitVec 1 := Scalar.cmpi .eq c32_i32_322 c0_i32_323
  let c1_i32_324 : BitVec 32 := 1#32
  let v464 : BitVec 32 := Scalar.select v463 c1_i32_324 c32_i32_322
  let v465 : BitVec 32 := Scalar.remsi v462 v464
  let c0_i32_326 : BitVec 32 := 0#32
  let v467 : BitVec 1 := Scalar.cmpi .slt v465 c0_i32_326
  let c0_i32_327 : BitVec 32 := 0#32
  let v468 : BitVec 1 := Scalar.cmpi .slt v464 c0_i32_327
  let v469 : BitVec 1 := Scalar.xori v467 v468
  let c0_i32_325 : BitVec 32 := 0#32
  let v466 : BitVec 1 := Scalar.cmpi .ne v465 c0_i32_325
  let v470 : BitVec 1 := Scalar.andi v469 v466
  let v471 : BitVec 32 := Scalar.addi v465 v464
  let v472 : BitVec 32 := Scalar.select v470 v471 v465
  let c1_i32_332 : BitVec 32 := 1#32
  let v474 : BitVec 32 := Scalar.muli v472 c1_i32_332
  let v475 : BitVec 32 := Scalar.addi c0_i32_333 v474
  v475.toNat
def k0_dev35 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_337 : BitVec 32 := 22#32
  let v483 : BitVec 32 := Scalar.addi v2 c22_i32_337
  let c32_i32_338 : BitVec 32 := 32#32
  let c0_i32_339 : BitVec 32 := 0#32
  let v484 : BitVec 1 := Scalar.cmpi .eq c32_i32_338 c0_i32_339
  let c1_i32_340 : BitVec 32 := 1#32
  let v485 : BitVec 32 := Scalar.select v484 c1_i32_340 c32_i32_338
  let v486 : BitVec 32 := Scalar.remsi v483 v485
  let c0_i32_342 : BitVec 32 := 0#32
  let v488 : BitVec 1 := Scalar.cmpi .slt v486 c0_i32_342
  let c0_i32_343 : BitVec 32 := 0#32
  let v489 : BitVec 1 := Scalar.cmpi .slt v485 c0_i32_343
  let v490 : BitVec 1 := Scalar.xori v488 v489
  let c0_i32_341 : BitVec 32 := 0#32
  let v487 : BitVec 1 := Scalar.cmpi .ne v486 c0_i32_341
  let v491 : BitVec 1 := Scalar.andi v490 v487
  let v492 : BitVec 32 := Scalar.addi v486 v485
  let v493 : BitVec 32 := Scalar.select v491 v492 v486
  let c1_i32_348 : BitVec 32 := 1#32
  let v495 : BitVec 32 := Scalar.muli v493 c1_i32_348
  let v496 : BitVec 32 := Scalar.addi c0_i32_349 v495
  v496.toNat
def k0_dev36 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_353 : BitVec 32 := 13#32
  let v504 : BitVec 32 := Scalar.addi v2 c13_i32_353
  let c32_i32_354 : BitVec 32 := 32#32
  let c0_i32_355 : BitVec 32 := 0#32
  let v505 : BitVec 1 := Scalar.cmpi .eq c32_i32_354 c0_i32_355
  let c1_i32_356 : BitVec 32 := 1#32
  let v506 : BitVec 32 := Scalar.select v505 c1_i32_356 c32_i32_354
  let v507 : BitVec 32 := Scalar.remsi v504 v506
  let c0_i32_358 : BitVec 32 := 0#32
  let v509 : BitVec 1 := Scalar.cmpi .slt v507 c0_i32_358
  let c0_i32_359 : BitVec 32 := 0#32
  let v510 : BitVec 1 := Scalar.cmpi .slt v506 c0_i32_359
  let v511 : BitVec 1 := Scalar.xori v509 v510
  let c0_i32_357 : BitVec 32 := 0#32
  let v508 : BitVec 1 := Scalar.cmpi .ne v507 c0_i32_357
  let v512 : BitVec 1 := Scalar.andi v511 v508
  let v513 : BitVec 32 := Scalar.addi v507 v506
  let v514 : BitVec 32 := Scalar.select v512 v513 v507
  let c1_i32_364 : BitVec 32 := 1#32
  let v516 : BitVec 32 := Scalar.muli v514 c1_i32_364
  let v517 : BitVec 32 := Scalar.addi c0_i32_365 v516
  v517.toNat
def k0_dev37 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_369 : BitVec 32 := 19#32
  let v525 : BitVec 32 := Scalar.addi v2 c19_i32_369
  let c32_i32_370 : BitVec 32 := 32#32
  let c0_i32_371 : BitVec 32 := 0#32
  let v526 : BitVec 1 := Scalar.cmpi .eq c32_i32_370 c0_i32_371
  let c1_i32_372 : BitVec 32 := 1#32
  let v527 : BitVec 32 := Scalar.select v526 c1_i32_372 c32_i32_370
  let v528 : BitVec 32 := Scalar.remsi v525 v527
  let c0_i32_374 : BitVec 32 := 0#32
  let v530 : BitVec 1 := Scalar.cmpi .slt v528 c0_i32_374
  let c0_i32_375 : BitVec 32 := 0#32
  let v531 : BitVec 1 := Scalar.cmpi .slt v527 c0_i32_375
  let v532 : BitVec 1 := Scalar.xori v530 v531
  let c0_i32_373 : BitVec 32 := 0#32
  let v529 : BitVec 1 := Scalar.cmpi .ne v528 c0_i32_373
  let v533 : BitVec 1 := Scalar.andi v532 v529
  let v534 : BitVec 32 := Scalar.addi v528 v527
  let v535 : BitVec 32 := Scalar.select v533 v534 v528
  let c1_i32_380 : BitVec 32 := 1#32
  let v537 : BitVec 32 := Scalar.muli v535 c1_i32_380
  let v538 : BitVec 32 := Scalar.addi c0_i32_381 v537
  v538.toNat
def k0_dev38 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_385 : BitVec 32 := 11#32
  let v546 : BitVec 32 := Scalar.addi v2 c11_i32_385
  let c32_i32_386 : BitVec 32 := 32#32
  let c0_i32_387 : BitVec 32 := 0#32
  let v547 : BitVec 1 := Scalar.cmpi .eq c32_i32_386 c0_i32_387
  let c1_i32_388 : BitVec 32 := 1#32
  let v548 : BitVec 32 := Scalar.select v547 c1_i32_388 c32_i32_386
  let v549 : BitVec 32 := Scalar.remsi v546 v548
  let c0_i32_390 : BitVec 32 := 0#32
  let v551 : BitVec 1 := Scalar.cmpi .slt v549 c0_i32_390
  let c0_i32_391 : BitVec 32 := 0#32
  let v552 : BitVec 1 := Scalar.cmpi .slt v548 c0_i32_391
  let v553 : BitVec 1 := Scalar.xori v551 v552
  let c0_i32_389 : BitVec 32 := 0#32
  let v550 : BitVec 1 := Scalar.cmpi .ne v549 c0_i32_389
  let v554 : BitVec 1 := Scalar.andi v553 v550
  let v555 : BitVec 32 := Scalar.addi v549 v548
  let v556 : BitVec 32 := Scalar.select v554 v555 v549
  let c1_i32_396 : BitVec 32 := 1#32
  let v558 : BitVec 32 := Scalar.muli v556 c1_i32_396
  let v559 : BitVec 32 := Scalar.addi c0_i32_397 v558
  v559.toNat
def k0_dev39 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_401 : BitVec 32 := 21#32
  let v567 : BitVec 32 := Scalar.addi v2 c21_i32_401
  let c32_i32_402 : BitVec 32 := 32#32
  let c0_i32_403 : BitVec 32 := 0#32
  let v568 : BitVec 1 := Scalar.cmpi .eq c32_i32_402 c0_i32_403
  let c1_i32_404 : BitVec 32 := 1#32
  let v569 : BitVec 32 := Scalar.select v568 c1_i32_404 c32_i32_402
  let v570 : BitVec 32 := Scalar.remsi v567 v569
  let c0_i32_406 : BitVec 32 := 0#32
  let v572 : BitVec 1 := Scalar.cmpi .slt v570 c0_i32_406
  let c0_i32_407 : BitVec 32 := 0#32
  let v573 : BitVec 1 := Scalar.cmpi .slt v569 c0_i32_407
  let v574 : BitVec 1 := Scalar.xori v572 v573
  let c0_i32_405 : BitVec 32 := 0#32
  let v571 : BitVec 1 := Scalar.cmpi .ne v570 c0_i32_405
  let v575 : BitVec 1 := Scalar.andi v574 v571
  let v576 : BitVec 32 := Scalar.addi v570 v569
  let v577 : BitVec 32 := Scalar.select v575 v576 v570
  let c1_i32_412 : BitVec 32 := 1#32
  let v579 : BitVec 32 := Scalar.muli v577 c1_i32_412
  let v580 : BitVec 32 := Scalar.addi c0_i32_413 v579
  v580.toNat
def k0_dev40 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_417 : BitVec 32 := 12#32
  let v588 : BitVec 32 := Scalar.addi v2 c12_i32_417
  let c32_i32_418 : BitVec 32 := 32#32
  let c0_i32_419 : BitVec 32 := 0#32
  let v589 : BitVec 1 := Scalar.cmpi .eq c32_i32_418 c0_i32_419
  let c1_i32_420 : BitVec 32 := 1#32
  let v590 : BitVec 32 := Scalar.select v589 c1_i32_420 c32_i32_418
  let v591 : BitVec 32 := Scalar.remsi v588 v590
  let c0_i32_422 : BitVec 32 := 0#32
  let v593 : BitVec 1 := Scalar.cmpi .slt v591 c0_i32_422
  let c0_i32_423 : BitVec 32 := 0#32
  let v594 : BitVec 1 := Scalar.cmpi .slt v590 c0_i32_423
  let v595 : BitVec 1 := Scalar.xori v593 v594
  let c0_i32_421 : BitVec 32 := 0#32
  let v592 : BitVec 1 := Scalar.cmpi .ne v591 c0_i32_421
  let v596 : BitVec 1 := Scalar.andi v595 v592
  let v597 : BitVec 32 := Scalar.addi v591 v590
  let v598 : BitVec 32 := Scalar.select v596 v597 v591
  let c1_i32_428 : BitVec 32 := 1#32
  let v600 : BitVec 32 := Scalar.muli v598 c1_i32_428
  let v601 : BitVec 32 := Scalar.addi c0_i32_429 v600
  v601.toNat
def k0_dev41 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_433 : BitVec 32 := 20#32
  let v609 : BitVec 32 := Scalar.addi v2 c20_i32_433
  let c32_i32_434 : BitVec 32 := 32#32
  let c0_i32_435 : BitVec 32 := 0#32
  let v610 : BitVec 1 := Scalar.cmpi .eq c32_i32_434 c0_i32_435
  let c1_i32_436 : BitVec 32 := 1#32
  let v611 : BitVec 32 := Scalar.select v610 c1_i32_436 c32_i32_434
  let v612 : BitVec 32 := Scalar.remsi v609 v611
  let c0_i32_438 : BitVec 32 := 0#32
  let v614 : BitVec 1 := Scalar.cmpi .slt v612 c0_i32_438
  let c0_i32_439 : BitVec 32 := 0#32
  let v615 : BitVec 1 := Scalar.cmpi .slt v611 c0_i32_439
  let v616 : BitVec 1 := Scalar.xori v614 v615
  let c0_i32_437 : BitVec 32 := 0#32
  let v613 : BitVec 1 := Scalar.cmpi .ne v612 c0_i32_437
  let v617 : BitVec 1 := Scalar.andi v616 v613
  let v618 : BitVec 32 := Scalar.addi v612 v611
  let v619 : BitVec 32 := Scalar.select v617 v618 v612
  let c1_i32_444 : BitVec 32 := 1#32
  let v621 : BitVec 32 := Scalar.muli v619 c1_i32_444
  let v622 : BitVec 32 := Scalar.addi c0_i32_445 v621
  v622.toNat
def k0_dev42 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_449 : BitVec 32 := 6#32
  let v630 : BitVec 32 := Scalar.addi v2 c6_i32_449
  let c32_i32_450 : BitVec 32 := 32#32
  let c0_i32_451 : BitVec 32 := 0#32
  let v631 : BitVec 1 := Scalar.cmpi .eq c32_i32_450 c0_i32_451
  let c1_i32_452 : BitVec 32 := 1#32
  let v632 : BitVec 32 := Scalar.select v631 c1_i32_452 c32_i32_450
  let v633 : BitVec 32 := Scalar.remsi v630 v632
  let c0_i32_454 : BitVec 32 := 0#32
  let v635 : BitVec 1 := Scalar.cmpi .slt v633 c0_i32_454
  let c0_i32_455 : BitVec 32 := 0#32
  let v636 : BitVec 1 := Scalar.cmpi .slt v632 c0_i32_455
  let v637 : BitVec 1 := Scalar.xori v635 v636
  let c0_i32_453 : BitVec 32 := 0#32
  let v634 : BitVec 1 := Scalar.cmpi .ne v633 c0_i32_453
  let v638 : BitVec 1 := Scalar.andi v637 v634
  let v639 : BitVec 32 := Scalar.addi v633 v632
  let v640 : BitVec 32 := Scalar.select v638 v639 v633
  let c1_i32_460 : BitVec 32 := 1#32
  let v642 : BitVec 32 := Scalar.muli v640 c1_i32_460
  let v643 : BitVec 32 := Scalar.addi c0_i32_461 v642
  v643.toNat
def k0_dev43 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_465 : BitVec 32 := 26#32
  let v651 : BitVec 32 := Scalar.addi v2 c26_i32_465
  let c32_i32_466 : BitVec 32 := 32#32
  let c0_i32_467 : BitVec 32 := 0#32
  let v652 : BitVec 1 := Scalar.cmpi .eq c32_i32_466 c0_i32_467
  let c1_i32_468 : BitVec 32 := 1#32
  let v653 : BitVec 32 := Scalar.select v652 c1_i32_468 c32_i32_466
  let v654 : BitVec 32 := Scalar.remsi v651 v653
  let c0_i32_470 : BitVec 32 := 0#32
  let v656 : BitVec 1 := Scalar.cmpi .slt v654 c0_i32_470
  let c0_i32_471 : BitVec 32 := 0#32
  let v657 : BitVec 1 := Scalar.cmpi .slt v653 c0_i32_471
  let v658 : BitVec 1 := Scalar.xori v656 v657
  let c0_i32_469 : BitVec 32 := 0#32
  let v655 : BitVec 1 := Scalar.cmpi .ne v654 c0_i32_469
  let v659 : BitVec 1 := Scalar.andi v658 v655
  let v660 : BitVec 32 := Scalar.addi v654 v653
  let v661 : BitVec 32 := Scalar.select v659 v660 v654
  let c1_i32_476 : BitVec 32 := 1#32
  let v663 : BitVec 32 := Scalar.muli v661 c1_i32_476
  let v664 : BitVec 32 := Scalar.addi c0_i32_477 v663
  v664.toNat
def k0_dev44 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_481 : BitVec 32 := 5#32
  let v672 : BitVec 32 := Scalar.addi v2 c5_i32_481
  let c32_i32_482 : BitVec 32 := 32#32
  let c0_i32_483 : BitVec 32 := 0#32
  let v673 : BitVec 1 := Scalar.cmpi .eq c32_i32_482 c0_i32_483
  let c1_i32_484 : BitVec 32 := 1#32
  let v674 : BitVec 32 := Scalar.select v673 c1_i32_484 c32_i32_482
  let v675 : BitVec 32 := Scalar.remsi v672 v674
  let c0_i32_486 : BitVec 32 := 0#32
  let v677 : BitVec 1 := Scalar.cmpi .slt v675 c0_i32_486
  let c0_i32_487 : BitVec 32 := 0#32
  let v678 : BitVec 1 := Scalar.cmpi .slt v674 c0_i32_487
  let v679 : BitVec 1 := Scalar.xori v677 v678
  let c0_i32_485 : BitVec 32 := 0#32
  let v676 : BitVec 1 := Scalar.cmpi .ne v675 c0_i32_485
  let v680 : BitVec 1 := Scalar.andi v679 v676
  let v681 : BitVec 32 := Scalar.addi v675 v674
  let v682 : BitVec 32 := Scalar.select v680 v681 v675
  let c1_i32_492 : BitVec 32 := 1#32
  let v684 : BitVec 32 := Scalar.muli v682 c1_i32_492
  let v685 : BitVec 32 := Scalar.addi c0_i32_493 v684
  v685.toNat
def k0_dev45 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_497 : BitVec 32 := 15#32
  let v693 : BitVec 32 := Scalar.addi v2 c15_i32_497
  let c32_i32_498 : BitVec 32 := 32#32
  let c0_i32_499 : BitVec 32 := 0#32
  let v694 : BitVec 1 := Scalar.cmpi .eq c32_i32_498 c0_i32_499
  let c1_i32_500 : BitVec 32 := 1#32
  let v695 : BitVec 32 := Scalar.select v694 c1_i32_500 c32_i32_498
  let v696 : BitVec 32 := Scalar.remsi v693 v695
  let c0_i32_502 : BitVec 32 := 0#32
  let v698 : BitVec 1 := Scalar.cmpi .slt v696 c0_i32_502
  let c0_i32_503 : BitVec 32 := 0#32
  let v699 : BitVec 1 := Scalar.cmpi .slt v695 c0_i32_503
  let v700 : BitVec 1 := Scalar.xori v698 v699
  let c0_i32_501 : BitVec 32 := 0#32
  let v697 : BitVec 1 := Scalar.cmpi .ne v696 c0_i32_501
  let v701 : BitVec 1 := Scalar.andi v700 v697
  let v702 : BitVec 32 := Scalar.addi v696 v695
  let v703 : BitVec 32 := Scalar.select v701 v702 v696
  let c1_i32_508 : BitVec 32 := 1#32
  let v705 : BitVec 32 := Scalar.muli v703 c1_i32_508
  let v706 : BitVec 32 := Scalar.addi c0_i32_509 v705
  v706.toNat
def k0_dev46 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_513 : BitVec 32 := 17#32
  let v714 : BitVec 32 := Scalar.addi v2 c17_i32_513
  let c32_i32_514 : BitVec 32 := 32#32
  let c0_i32_515 : BitVec 32 := 0#32
  let v715 : BitVec 1 := Scalar.cmpi .eq c32_i32_514 c0_i32_515
  let c1_i32_516 : BitVec 32 := 1#32
  let v716 : BitVec 32 := Scalar.select v715 c1_i32_516 c32_i32_514
  let v717 : BitVec 32 := Scalar.remsi v714 v716
  let c0_i32_518 : BitVec 32 := 0#32
  let v719 : BitVec 1 := Scalar.cmpi .slt v717 c0_i32_518
  let c0_i32_519 : BitVec 32 := 0#32
  let v720 : BitVec 1 := Scalar.cmpi .slt v716 c0_i32_519
  let v721 : BitVec 1 := Scalar.xori v719 v720
  let c0_i32_517 : BitVec 32 := 0#32
  let v718 : BitVec 1 := Scalar.cmpi .ne v717 c0_i32_517
  let v722 : BitVec 1 := Scalar.andi v721 v718
  let v723 : BitVec 32 := Scalar.addi v717 v716
  let v724 : BitVec 32 := Scalar.select v722 v723 v717
  let c1_i32_524 : BitVec 32 := 1#32
  let v726 : BitVec 32 := Scalar.muli v724 c1_i32_524
  let v727 : BitVec 32 := Scalar.addi c0_i32_525 v726
  v727.toNat
def k0_dev47 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_529 : BitVec 32 := 27#32
  let v735 : BitVec 32 := Scalar.addi v2 c27_i32_529
  let c32_i32_530 : BitVec 32 := 32#32
  let c0_i32_531 : BitVec 32 := 0#32
  let v736 : BitVec 1 := Scalar.cmpi .eq c32_i32_530 c0_i32_531
  let c1_i32_532 : BitVec 32 := 1#32
  let v737 : BitVec 32 := Scalar.select v736 c1_i32_532 c32_i32_530
  let v738 : BitVec 32 := Scalar.remsi v735 v737
  let c0_i32_534 : BitVec 32 := 0#32
  let v740 : BitVec 1 := Scalar.cmpi .slt v738 c0_i32_534
  let c0_i32_535 : BitVec 32 := 0#32
  let v741 : BitVec 1 := Scalar.cmpi .slt v737 c0_i32_535
  let v742 : BitVec 1 := Scalar.xori v740 v741
  let c0_i32_533 : BitVec 32 := 0#32
  let v739 : BitVec 1 := Scalar.cmpi .ne v738 c0_i32_533
  let v743 : BitVec 1 := Scalar.andi v742 v739
  let v744 : BitVec 32 := Scalar.addi v738 v737
  let v745 : BitVec 32 := Scalar.select v743 v744 v738
  let c1_i32_540 : BitVec 32 := 1#32
  let v747 : BitVec 32 := Scalar.muli v745 c1_i32_540
  let v748 : BitVec 32 := Scalar.addi c0_i32_541 v747
  v748.toNat
def k0_dev48 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_545 : BitVec 32 := 2#32
  let v756 : BitVec 32 := Scalar.addi v2 c2_i32_545
  let c32_i32_546 : BitVec 32 := 32#32
  let c0_i32_547 : BitVec 32 := 0#32
  let v757 : BitVec 1 := Scalar.cmpi .eq c32_i32_546 c0_i32_547
  let c1_i32_548 : BitVec 32 := 1#32
  let v758 : BitVec 32 := Scalar.select v757 c1_i32_548 c32_i32_546
  let v759 : BitVec 32 := Scalar.remsi v756 v758
  let c0_i32_550 : BitVec 32 := 0#32
  let v761 : BitVec 1 := Scalar.cmpi .slt v759 c0_i32_550
  let c0_i32_551 : BitVec 32 := 0#32
  let v762 : BitVec 1 := Scalar.cmpi .slt v758 c0_i32_551
  let v763 : BitVec 1 := Scalar.xori v761 v762
  let c0_i32_549 : BitVec 32 := 0#32
  let v760 : BitVec 1 := Scalar.cmpi .ne v759 c0_i32_549
  let v764 : BitVec 1 := Scalar.andi v763 v760
  let v765 : BitVec 32 := Scalar.addi v759 v758
  let v766 : BitVec 32 := Scalar.select v764 v765 v759
  let c1_i32_556 : BitVec 32 := 1#32
  let v768 : BitVec 32 := Scalar.muli v766 c1_i32_556
  let v769 : BitVec 32 := Scalar.addi c0_i32_557 v768
  v769.toNat
def k0_dev49 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_561 : BitVec 32 := 30#32
  let v777 : BitVec 32 := Scalar.addi v2 c30_i32_561
  let c32_i32_562 : BitVec 32 := 32#32
  let c0_i32_563 : BitVec 32 := 0#32
  let v778 : BitVec 1 := Scalar.cmpi .eq c32_i32_562 c0_i32_563
  let c1_i32_564 : BitVec 32 := 1#32
  let v779 : BitVec 32 := Scalar.select v778 c1_i32_564 c32_i32_562
  let v780 : BitVec 32 := Scalar.remsi v777 v779
  let c0_i32_566 : BitVec 32 := 0#32
  let v782 : BitVec 1 := Scalar.cmpi .slt v780 c0_i32_566
  let c0_i32_567 : BitVec 32 := 0#32
  let v783 : BitVec 1 := Scalar.cmpi .slt v779 c0_i32_567
  let v784 : BitVec 1 := Scalar.xori v782 v783
  let c0_i32_565 : BitVec 32 := 0#32
  let v781 : BitVec 1 := Scalar.cmpi .ne v780 c0_i32_565
  let v785 : BitVec 1 := Scalar.andi v784 v781
  let v786 : BitVec 32 := Scalar.addi v780 v779
  let v787 : BitVec 32 := Scalar.select v785 v786 v780
  let c1_i32_572 : BitVec 32 := 1#32
  let v789 : BitVec 32 := Scalar.muli v787 c1_i32_572
  let v790 : BitVec 32 := Scalar.addi c0_i32_573 v789
  v790.toNat
def k0_dev50 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_577 : BitVec 32 := 3#32
  let v798 : BitVec 32 := Scalar.addi v2 c3_i32_577
  let c32_i32_578 : BitVec 32 := 32#32
  let c0_i32_579 : BitVec 32 := 0#32
  let v799 : BitVec 1 := Scalar.cmpi .eq c32_i32_578 c0_i32_579
  let c1_i32_580 : BitVec 32 := 1#32
  let v800 : BitVec 32 := Scalar.select v799 c1_i32_580 c32_i32_578
  let v801 : BitVec 32 := Scalar.remsi v798 v800
  let c0_i32_582 : BitVec 32 := 0#32
  let v803 : BitVec 1 := Scalar.cmpi .slt v801 c0_i32_582
  let c0_i32_583 : BitVec 32 := 0#32
  let v804 : BitVec 1 := Scalar.cmpi .slt v800 c0_i32_583
  let v805 : BitVec 1 := Scalar.xori v803 v804
  let c0_i32_581 : BitVec 32 := 0#32
  let v802 : BitVec 1 := Scalar.cmpi .ne v801 c0_i32_581
  let v806 : BitVec 1 := Scalar.andi v805 v802
  let v807 : BitVec 32 := Scalar.addi v801 v800
  let v808 : BitVec 32 := Scalar.select v806 v807 v801
  let c1_i32_588 : BitVec 32 := 1#32
  let v810 : BitVec 32 := Scalar.muli v808 c1_i32_588
  let v811 : BitVec 32 := Scalar.addi c0_i32_589 v810
  v811.toNat
def k0_dev51 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_593 : BitVec 32 := 29#32
  let v819 : BitVec 32 := Scalar.addi v2 c29_i32_593
  let c32_i32_594 : BitVec 32 := 32#32
  let c0_i32_595 : BitVec 32 := 0#32
  let v820 : BitVec 1 := Scalar.cmpi .eq c32_i32_594 c0_i32_595
  let c1_i32_596 : BitVec 32 := 1#32
  let v821 : BitVec 32 := Scalar.select v820 c1_i32_596 c32_i32_594
  let v822 : BitVec 32 := Scalar.remsi v819 v821
  let c0_i32_598 : BitVec 32 := 0#32
  let v824 : BitVec 1 := Scalar.cmpi .slt v822 c0_i32_598
  let c0_i32_599 : BitVec 32 := 0#32
  let v825 : BitVec 1 := Scalar.cmpi .slt v821 c0_i32_599
  let v826 : BitVec 1 := Scalar.xori v824 v825
  let c0_i32_597 : BitVec 32 := 0#32
  let v823 : BitVec 1 := Scalar.cmpi .ne v822 c0_i32_597
  let v827 : BitVec 1 := Scalar.andi v826 v823
  let v828 : BitVec 32 := Scalar.addi v822 v821
  let v829 : BitVec 32 := Scalar.select v827 v828 v822
  let c1_i32_604 : BitVec 32 := 1#32
  let v831 : BitVec 32 := Scalar.muli v829 c1_i32_604
  let v832 : BitVec 32 := Scalar.addi c0_i32_605 v831
  v832.toNat
def k0_dev52 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_609 : BitVec 32 := 9#32
  let v840 : BitVec 32 := Scalar.addi v2 c9_i32_609
  let c32_i32_610 : BitVec 32 := 32#32
  let c0_i32_611 : BitVec 32 := 0#32
  let v841 : BitVec 1 := Scalar.cmpi .eq c32_i32_610 c0_i32_611
  let c1_i32_612 : BitVec 32 := 1#32
  let v842 : BitVec 32 := Scalar.select v841 c1_i32_612 c32_i32_610
  let v843 : BitVec 32 := Scalar.remsi v840 v842
  let c0_i32_614 : BitVec 32 := 0#32
  let v845 : BitVec 1 := Scalar.cmpi .slt v843 c0_i32_614
  let c0_i32_615 : BitVec 32 := 0#32
  let v846 : BitVec 1 := Scalar.cmpi .slt v842 c0_i32_615
  let v847 : BitVec 1 := Scalar.xori v845 v846
  let c0_i32_613 : BitVec 32 := 0#32
  let v844 : BitVec 1 := Scalar.cmpi .ne v843 c0_i32_613
  let v848 : BitVec 1 := Scalar.andi v847 v844
  let v849 : BitVec 32 := Scalar.addi v843 v842
  let v850 : BitVec 32 := Scalar.select v848 v849 v843
  let c1_i32_620 : BitVec 32 := 1#32
  let v852 : BitVec 32 := Scalar.muli v850 c1_i32_620
  let v853 : BitVec 32 := Scalar.addi c0_i32_621 v852
  v853.toNat
def k0_dev53 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_625 : BitVec 32 := 23#32
  let v861 : BitVec 32 := Scalar.addi v2 c23_i32_625
  let c32_i32_626 : BitVec 32 := 32#32
  let c0_i32_627 : BitVec 32 := 0#32
  let v862 : BitVec 1 := Scalar.cmpi .eq c32_i32_626 c0_i32_627
  let c1_i32_628 : BitVec 32 := 1#32
  let v863 : BitVec 32 := Scalar.select v862 c1_i32_628 c32_i32_626
  let v864 : BitVec 32 := Scalar.remsi v861 v863
  let c0_i32_630 : BitVec 32 := 0#32
  let v866 : BitVec 1 := Scalar.cmpi .slt v864 c0_i32_630
  let c0_i32_631 : BitVec 32 := 0#32
  let v867 : BitVec 1 := Scalar.cmpi .slt v863 c0_i32_631
  let v868 : BitVec 1 := Scalar.xori v866 v867
  let c0_i32_629 : BitVec 32 := 0#32
  let v865 : BitVec 1 := Scalar.cmpi .ne v864 c0_i32_629
  let v869 : BitVec 1 := Scalar.andi v868 v865
  let v870 : BitVec 32 := Scalar.addi v864 v863
  let v871 : BitVec 32 := Scalar.select v869 v870 v864
  let c1_i32_636 : BitVec 32 := 1#32
  let v873 : BitVec 32 := Scalar.muli v871 c1_i32_636
  let v874 : BitVec 32 := Scalar.addi c0_i32_637 v873
  v874.toNat
def k0_dev54 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_641 : BitVec 32 := 4#32
  let v882 : BitVec 32 := Scalar.addi v2 c4_i32_641
  let c32_i32_642 : BitVec 32 := 32#32
  let c0_i32_643 : BitVec 32 := 0#32
  let v883 : BitVec 1 := Scalar.cmpi .eq c32_i32_642 c0_i32_643
  let c1_i32_644 : BitVec 32 := 1#32
  let v884 : BitVec 32 := Scalar.select v883 c1_i32_644 c32_i32_642
  let v885 : BitVec 32 := Scalar.remsi v882 v884
  let c0_i32_646 : BitVec 32 := 0#32
  let v887 : BitVec 1 := Scalar.cmpi .slt v885 c0_i32_646
  let c0_i32_647 : BitVec 32 := 0#32
  let v888 : BitVec 1 := Scalar.cmpi .slt v884 c0_i32_647
  let v889 : BitVec 1 := Scalar.xori v887 v888
  let c0_i32_645 : BitVec 32 := 0#32
  let v886 : BitVec 1 := Scalar.cmpi .ne v885 c0_i32_645
  let v890 : BitVec 1 := Scalar.andi v889 v886
  let v891 : BitVec 32 := Scalar.addi v885 v884
  let v892 : BitVec 32 := Scalar.select v890 v891 v885
  let c1_i32_652 : BitVec 32 := 1#32
  let v894 : BitVec 32 := Scalar.muli v892 c1_i32_652
  let v895 : BitVec 32 := Scalar.addi c0_i32_653 v894
  v895.toNat
def k0_dev55 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_657 : BitVec 32 := 28#32
  let v903 : BitVec 32 := Scalar.addi v2 c28_i32_657
  let c32_i32_658 : BitVec 32 := 32#32
  let c0_i32_659 : BitVec 32 := 0#32
  let v904 : BitVec 1 := Scalar.cmpi .eq c32_i32_658 c0_i32_659
  let c1_i32_660 : BitVec 32 := 1#32
  let v905 : BitVec 32 := Scalar.select v904 c1_i32_660 c32_i32_658
  let v906 : BitVec 32 := Scalar.remsi v903 v905
  let c0_i32_662 : BitVec 32 := 0#32
  let v908 : BitVec 1 := Scalar.cmpi .slt v906 c0_i32_662
  let c0_i32_663 : BitVec 32 := 0#32
  let v909 : BitVec 1 := Scalar.cmpi .slt v905 c0_i32_663
  let v910 : BitVec 1 := Scalar.xori v908 v909
  let c0_i32_661 : BitVec 32 := 0#32
  let v907 : BitVec 1 := Scalar.cmpi .ne v906 c0_i32_661
  let v911 : BitVec 1 := Scalar.andi v910 v907
  let v912 : BitVec 32 := Scalar.addi v906 v905
  let v913 : BitVec 32 := Scalar.select v911 v912 v906
  let c1_i32_668 : BitVec 32 := 1#32
  let v915 : BitVec 32 := Scalar.muli v913 c1_i32_668
  let v916 : BitVec 32 := Scalar.addi c0_i32_669 v915
  v916.toNat
def k0_dev56 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_673 : BitVec 32 := 7#32
  let v924 : BitVec 32 := Scalar.addi v2 c7_i32_673
  let c32_i32_674 : BitVec 32 := 32#32
  let c0_i32_675 : BitVec 32 := 0#32
  let v925 : BitVec 1 := Scalar.cmpi .eq c32_i32_674 c0_i32_675
  let c1_i32_676 : BitVec 32 := 1#32
  let v926 : BitVec 32 := Scalar.select v925 c1_i32_676 c32_i32_674
  let v927 : BitVec 32 := Scalar.remsi v924 v926
  let c0_i32_678 : BitVec 32 := 0#32
  let v929 : BitVec 1 := Scalar.cmpi .slt v927 c0_i32_678
  let c0_i32_679 : BitVec 32 := 0#32
  let v930 : BitVec 1 := Scalar.cmpi .slt v926 c0_i32_679
  let v931 : BitVec 1 := Scalar.xori v929 v930
  let c0_i32_677 : BitVec 32 := 0#32
  let v928 : BitVec 1 := Scalar.cmpi .ne v927 c0_i32_677
  let v932 : BitVec 1 := Scalar.andi v931 v928
  let v933 : BitVec 32 := Scalar.addi v927 v926
  let v934 : BitVec 32 := Scalar.select v932 v933 v927
  let c1_i32_684 : BitVec 32 := 1#32
  let v936 : BitVec 32 := Scalar.muli v934 c1_i32_684
  let v937 : BitVec 32 := Scalar.addi c0_i32_685 v936
  v937.toNat
def k0_dev57 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_689 : BitVec 32 := 25#32
  let v945 : BitVec 32 := Scalar.addi v2 c25_i32_689
  let c32_i32_690 : BitVec 32 := 32#32
  let c0_i32_691 : BitVec 32 := 0#32
  let v946 : BitVec 1 := Scalar.cmpi .eq c32_i32_690 c0_i32_691
  let c1_i32_692 : BitVec 32 := 1#32
  let v947 : BitVec 32 := Scalar.select v946 c1_i32_692 c32_i32_690
  let v948 : BitVec 32 := Scalar.remsi v945 v947
  let c0_i32_694 : BitVec 32 := 0#32
  let v950 : BitVec 1 := Scalar.cmpi .slt v948 c0_i32_694
  let c0_i32_695 : BitVec 32 := 0#32
  let v951 : BitVec 1 := Scalar.cmpi .slt v947 c0_i32_695
  let v952 : BitVec 1 := Scalar.xori v950 v951
  let c0_i32_693 : BitVec 32 := 0#32
  let v949 : BitVec 1 := Scalar.cmpi .ne v948 c0_i32_693
  let v953 : BitVec 1 := Scalar.andi v952 v949
  let v954 : BitVec 32 := Scalar.addi v948 v947
  let v955 : BitVec 32 := Scalar.select v953 v954 v948
  let c1_i32_700 : BitVec 32 := 1#32
  let v957 : BitVec 32 := Scalar.muli v955 c1_i32_700
  let v958 : BitVec 32 := Scalar.addi c0_i32_701 v957
  v958.toNat
def k0_dev58 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_705 : BitVec 32 := 16#32
  let v966 : BitVec 32 := Scalar.addi v2 c16_i32_705
  let c32_i32_706 : BitVec 32 := 32#32
  let c0_i32_707 : BitVec 32 := 0#32
  let v967 : BitVec 1 := Scalar.cmpi .eq c32_i32_706 c0_i32_707
  let c1_i32_708 : BitVec 32 := 1#32
  let v968 : BitVec 32 := Scalar.select v967 c1_i32_708 c32_i32_706
  let v969 : BitVec 32 := Scalar.remsi v966 v968
  let c0_i32_710 : BitVec 32 := 0#32
  let v971 : BitVec 1 := Scalar.cmpi .slt v969 c0_i32_710
  let c0_i32_711 : BitVec 32 := 0#32
  let v972 : BitVec 1 := Scalar.cmpi .slt v968 c0_i32_711
  let v973 : BitVec 1 := Scalar.xori v971 v972
  let c0_i32_709 : BitVec 32 := 0#32
  let v970 : BitVec 1 := Scalar.cmpi .ne v969 c0_i32_709
  let v974 : BitVec 1 := Scalar.andi v973 v970
  let v975 : BitVec 32 := Scalar.addi v969 v968
  let v976 : BitVec 32 := Scalar.select v974 v975 v969
  let c1_i32_716 : BitVec 32 := 1#32
  let v978 : BitVec 32 := Scalar.muli v976 c1_i32_716
  let v979 : BitVec 32 := Scalar.addi c0_i32_717 v978
  v979.toNat
def k0_dev59 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_721 : BitVec 32 := 8#32
  let v987 : BitVec 32 := Scalar.addi v2 c8_i32_721
  let c32_i32_722 : BitVec 32 := 32#32
  let c0_i32_723 : BitVec 32 := 0#32
  let v988 : BitVec 1 := Scalar.cmpi .eq c32_i32_722 c0_i32_723
  let c1_i32_724 : BitVec 32 := 1#32
  let v989 : BitVec 32 := Scalar.select v988 c1_i32_724 c32_i32_722
  let v990 : BitVec 32 := Scalar.remsi v987 v989
  let c0_i32_726 : BitVec 32 := 0#32
  let v992 : BitVec 1 := Scalar.cmpi .slt v990 c0_i32_726
  let c0_i32_727 : BitVec 32 := 0#32
  let v993 : BitVec 1 := Scalar.cmpi .slt v989 c0_i32_727
  let v994 : BitVec 1 := Scalar.xori v992 v993
  let c0_i32_725 : BitVec 32 := 0#32
  let v991 : BitVec 1 := Scalar.cmpi .ne v990 c0_i32_725
  let v995 : BitVec 1 := Scalar.andi v994 v991
  let v996 : BitVec 32 := Scalar.addi v990 v989
  let v997 : BitVec 32 := Scalar.select v995 v996 v990
  let c1_i32_732 : BitVec 32 := 1#32
  let v999 : BitVec 32 := Scalar.muli v997 c1_i32_732
  let v1000 : BitVec 32 := Scalar.addi c0_i32_733 v999
  v1000.toNat
def k0_dev60 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_737 : BitVec 32 := 24#32
  let v1008 : BitVec 32 := Scalar.addi v2 c24_i32_737
  let c32_i32_738 : BitVec 32 := 32#32
  let c0_i32_739 : BitVec 32 := 0#32
  let v1009 : BitVec 1 := Scalar.cmpi .eq c32_i32_738 c0_i32_739
  let c1_i32_740 : BitVec 32 := 1#32
  let v1010 : BitVec 32 := Scalar.select v1009 c1_i32_740 c32_i32_738
  let v1011 : BitVec 32 := Scalar.remsi v1008 v1010
  let c0_i32_742 : BitVec 32 := 0#32
  let v1013 : BitVec 1 := Scalar.cmpi .slt v1011 c0_i32_742
  let c0_i32_743 : BitVec 32 := 0#32
  let v1014 : BitVec 1 := Scalar.cmpi .slt v1010 c0_i32_743
  let v1015 : BitVec 1 := Scalar.xori v1013 v1014
  let c0_i32_741 : BitVec 32 := 0#32
  let v1012 : BitVec 1 := Scalar.cmpi .ne v1011 c0_i32_741
  let v1016 : BitVec 1 := Scalar.andi v1015 v1012
  let v1017 : BitVec 32 := Scalar.addi v1011 v1010
  let v1018 : BitVec 32 := Scalar.select v1016 v1017 v1011
  let c1_i32_748 : BitVec 32 := 1#32
  let v1020 : BitVec 32 := Scalar.muli v1018 c1_i32_748
  let v1021 : BitVec 32 := Scalar.addi c0_i32_749 v1020
  v1021.toNat
def k0_dev61 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_753 : BitVec 32 := 1#32
  let v1029 : BitVec 32 := Scalar.addi v2 c1_i32_753
  let c32_i32_754 : BitVec 32 := 32#32
  let c0_i32_755 : BitVec 32 := 0#32
  let v1030 : BitVec 1 := Scalar.cmpi .eq c32_i32_754 c0_i32_755
  let c1_i32_756 : BitVec 32 := 1#32
  let v1031 : BitVec 32 := Scalar.select v1030 c1_i32_756 c32_i32_754
  let v1032 : BitVec 32 := Scalar.remsi v1029 v1031
  let c0_i32_758 : BitVec 32 := 0#32
  let v1034 : BitVec 1 := Scalar.cmpi .slt v1032 c0_i32_758
  let c0_i32_759 : BitVec 32 := 0#32
  let v1035 : BitVec 1 := Scalar.cmpi .slt v1031 c0_i32_759
  let v1036 : BitVec 1 := Scalar.xori v1034 v1035
  let c0_i32_757 : BitVec 32 := 0#32
  let v1033 : BitVec 1 := Scalar.cmpi .ne v1032 c0_i32_757
  let v1037 : BitVec 1 := Scalar.andi v1036 v1033
  let v1038 : BitVec 32 := Scalar.addi v1032 v1031
  let v1039 : BitVec 32 := Scalar.select v1037 v1038 v1032
  let c1_i32_764 : BitVec 32 := 1#32
  let v1041 : BitVec 32 := Scalar.muli v1039 c1_i32_764
  let v1042 : BitVec 32 := Scalar.addi c0_i32_765 v1041
  v1042.toNat
def k0_dev62 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_769 : BitVec 32 := 31#32
  let v1050 : BitVec 32 := Scalar.addi v2 c31_i32_769
  let c32_i32_770 : BitVec 32 := 32#32
  let c0_i32_771 : BitVec 32 := 0#32
  let v1051 : BitVec 1 := Scalar.cmpi .eq c32_i32_770 c0_i32_771
  let c1_i32_772 : BitVec 32 := 1#32
  let v1052 : BitVec 32 := Scalar.select v1051 c1_i32_772 c32_i32_770
  let v1053 : BitVec 32 := Scalar.remsi v1050 v1052
  let c0_i32_774 : BitVec 32 := 0#32
  let v1055 : BitVec 1 := Scalar.cmpi .slt v1053 c0_i32_774
  let c0_i32_775 : BitVec 32 := 0#32
  let v1056 : BitVec 1 := Scalar.cmpi .slt v1052 c0_i32_775
  let v1057 : BitVec 1 := Scalar.xori v1055 v1056
  let c0_i32_773 : BitVec 32 := 0#32
  let v1054 : BitVec 1 := Scalar.cmpi .ne v1053 c0_i32_773
  let v1058 : BitVec 1 := Scalar.andi v1057 v1054
  let v1059 : BitVec 32 := Scalar.addi v1053 v1052
  let v1060 : BitVec 32 := Scalar.select v1058 v1059 v1053
  let c1_i32_780 : BitVec 32 := 1#32
  let v1062 : BitVec 32 := Scalar.muli v1060 c1_i32_780
  let v1063 : BitVec 32 := Scalar.addi c0_i32_781 v1062
  v1063.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1033 : BitVec 32 := 8#32
  let v1288 : BitVec 32 := Scalar.muli v2 c8_i32_1033
  let v1289 : Index := Scalar.indexCast v1288
  let c0_1034 : Index := 0#32
  ![v1289.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1048 : BitVec 32 := 8#32
  let v1308 : BitVec 32 := Scalar.muli v2 c8_i32_1048
  let c0_i32_1053 : BitVec 32 := 0#32
  ![v1308.toNat, 0]
def k0_dev63 (d0 : Dev nD) : Nat :=
  let c0_i32_1052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1041 : BitVec 32 := 14#32
  let v1297 : BitVec 32 := Scalar.addi v2 c14_i32_1041
  let c32_i32_1042 : BitVec 32 := 32#32
  let c0_i32_1043 : BitVec 32 := 0#32
  let v1298 : BitVec 1 := Scalar.cmpi .eq c32_i32_1042 c0_i32_1043
  let c1_i32_1044 : BitVec 32 := 1#32
  let v1299 : BitVec 32 := Scalar.select v1298 c1_i32_1044 c32_i32_1042
  let v1300 : BitVec 32 := Scalar.remsi v1297 v1299
  let c0_i32_1046 : BitVec 32 := 0#32
  let v1302 : BitVec 1 := Scalar.cmpi .slt v1300 c0_i32_1046
  let c0_i32_1047 : BitVec 32 := 0#32
  let v1303 : BitVec 1 := Scalar.cmpi .slt v1299 c0_i32_1047
  let v1304 : BitVec 1 := Scalar.xori v1302 v1303
  let c0_i32_1045 : BitVec 32 := 0#32
  let v1301 : BitVec 1 := Scalar.cmpi .ne v1300 c0_i32_1045
  let v1305 : BitVec 1 := Scalar.andi v1304 v1301
  let v1306 : BitVec 32 := Scalar.addi v1300 v1299
  let v1307 : BitVec 32 := Scalar.select v1305 v1306 v1300
  let c1_i32_1051 : BitVec 32 := 1#32
  let v1309 : BitVec 32 := Scalar.muli v1307 c1_i32_1051
  let v1310 : BitVec 32 := Scalar.addi c0_i32_1052 v1309
  v1310.toNat
def k0_dev64 (d0 : Dev nD) : Nat :=
  let c0_i32_1065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1054 : BitVec 32 := 18#32
  let v1316 : BitVec 32 := Scalar.addi v2 c18_i32_1054
  let c32_i32_1055 : BitVec 32 := 32#32
  let c0_i32_1056 : BitVec 32 := 0#32
  let v1317 : BitVec 1 := Scalar.cmpi .eq c32_i32_1055 c0_i32_1056
  let c1_i32_1057 : BitVec 32 := 1#32
  let v1318 : BitVec 32 := Scalar.select v1317 c1_i32_1057 c32_i32_1055
  let v1319 : BitVec 32 := Scalar.remsi v1316 v1318
  let c0_i32_1059 : BitVec 32 := 0#32
  let v1321 : BitVec 1 := Scalar.cmpi .slt v1319 c0_i32_1059
  let c0_i32_1060 : BitVec 32 := 0#32
  let v1322 : BitVec 1 := Scalar.cmpi .slt v1318 c0_i32_1060
  let v1323 : BitVec 1 := Scalar.xori v1321 v1322
  let c0_i32_1058 : BitVec 32 := 0#32
  let v1320 : BitVec 1 := Scalar.cmpi .ne v1319 c0_i32_1058
  let v1324 : BitVec 1 := Scalar.andi v1323 v1320
  let v1325 : BitVec 32 := Scalar.addi v1319 v1318
  let v1326 : BitVec 32 := Scalar.select v1324 v1325 v1319
  let c1_i32_1064 : BitVec 32 := 1#32
  let v1328 : BitVec 32 := Scalar.muli v1326 c1_i32_1064
  let v1329 : BitVec 32 := Scalar.addi c0_i32_1065 v1328
  v1329.toNat
def k0_dev65 (d0 : Dev nD) : Nat :=
  let c0_i32_1078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1067 : BitVec 32 := 10#32
  let v1335 : BitVec 32 := Scalar.addi v2 c10_i32_1067
  let c32_i32_1068 : BitVec 32 := 32#32
  let c0_i32_1069 : BitVec 32 := 0#32
  let v1336 : BitVec 1 := Scalar.cmpi .eq c32_i32_1068 c0_i32_1069
  let c1_i32_1070 : BitVec 32 := 1#32
  let v1337 : BitVec 32 := Scalar.select v1336 c1_i32_1070 c32_i32_1068
  let v1338 : BitVec 32 := Scalar.remsi v1335 v1337
  let c0_i32_1072 : BitVec 32 := 0#32
  let v1340 : BitVec 1 := Scalar.cmpi .slt v1338 c0_i32_1072
  let c0_i32_1073 : BitVec 32 := 0#32
  let v1341 : BitVec 1 := Scalar.cmpi .slt v1337 c0_i32_1073
  let v1342 : BitVec 1 := Scalar.xori v1340 v1341
  let c0_i32_1071 : BitVec 32 := 0#32
  let v1339 : BitVec 1 := Scalar.cmpi .ne v1338 c0_i32_1071
  let v1343 : BitVec 1 := Scalar.andi v1342 v1339
  let v1344 : BitVec 32 := Scalar.addi v1338 v1337
  let v1345 : BitVec 32 := Scalar.select v1343 v1344 v1338
  let c1_i32_1077 : BitVec 32 := 1#32
  let v1347 : BitVec 32 := Scalar.muli v1345 c1_i32_1077
  let v1348 : BitVec 32 := Scalar.addi c0_i32_1078 v1347
  v1348.toNat
def k0_dev66 (d0 : Dev nD) : Nat :=
  let c0_i32_1091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1080 : BitVec 32 := 22#32
  let v1354 : BitVec 32 := Scalar.addi v2 c22_i32_1080
  let c32_i32_1081 : BitVec 32 := 32#32
  let c0_i32_1082 : BitVec 32 := 0#32
  let v1355 : BitVec 1 := Scalar.cmpi .eq c32_i32_1081 c0_i32_1082
  let c1_i32_1083 : BitVec 32 := 1#32
  let v1356 : BitVec 32 := Scalar.select v1355 c1_i32_1083 c32_i32_1081
  let v1357 : BitVec 32 := Scalar.remsi v1354 v1356
  let c0_i32_1085 : BitVec 32 := 0#32
  let v1359 : BitVec 1 := Scalar.cmpi .slt v1357 c0_i32_1085
  let c0_i32_1086 : BitVec 32 := 0#32
  let v1360 : BitVec 1 := Scalar.cmpi .slt v1356 c0_i32_1086
  let v1361 : BitVec 1 := Scalar.xori v1359 v1360
  let c0_i32_1084 : BitVec 32 := 0#32
  let v1358 : BitVec 1 := Scalar.cmpi .ne v1357 c0_i32_1084
  let v1362 : BitVec 1 := Scalar.andi v1361 v1358
  let v1363 : BitVec 32 := Scalar.addi v1357 v1356
  let v1364 : BitVec 32 := Scalar.select v1362 v1363 v1357
  let c1_i32_1090 : BitVec 32 := 1#32
  let v1366 : BitVec 32 := Scalar.muli v1364 c1_i32_1090
  let v1367 : BitVec 32 := Scalar.addi c0_i32_1091 v1366
  v1367.toNat
def k0_dev67 (d0 : Dev nD) : Nat :=
  let c0_i32_1104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1093 : BitVec 32 := 13#32
  let v1373 : BitVec 32 := Scalar.addi v2 c13_i32_1093
  let c32_i32_1094 : BitVec 32 := 32#32
  let c0_i32_1095 : BitVec 32 := 0#32
  let v1374 : BitVec 1 := Scalar.cmpi .eq c32_i32_1094 c0_i32_1095
  let c1_i32_1096 : BitVec 32 := 1#32
  let v1375 : BitVec 32 := Scalar.select v1374 c1_i32_1096 c32_i32_1094
  let v1376 : BitVec 32 := Scalar.remsi v1373 v1375
  let c0_i32_1098 : BitVec 32 := 0#32
  let v1378 : BitVec 1 := Scalar.cmpi .slt v1376 c0_i32_1098
  let c0_i32_1099 : BitVec 32 := 0#32
  let v1379 : BitVec 1 := Scalar.cmpi .slt v1375 c0_i32_1099
  let v1380 : BitVec 1 := Scalar.xori v1378 v1379
  let c0_i32_1097 : BitVec 32 := 0#32
  let v1377 : BitVec 1 := Scalar.cmpi .ne v1376 c0_i32_1097
  let v1381 : BitVec 1 := Scalar.andi v1380 v1377
  let v1382 : BitVec 32 := Scalar.addi v1376 v1375
  let v1383 : BitVec 32 := Scalar.select v1381 v1382 v1376
  let c1_i32_1103 : BitVec 32 := 1#32
  let v1385 : BitVec 32 := Scalar.muli v1383 c1_i32_1103
  let v1386 : BitVec 32 := Scalar.addi c0_i32_1104 v1385
  v1386.toNat
def k0_dev68 (d0 : Dev nD) : Nat :=
  let c0_i32_1117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1106 : BitVec 32 := 19#32
  let v1392 : BitVec 32 := Scalar.addi v2 c19_i32_1106
  let c32_i32_1107 : BitVec 32 := 32#32
  let c0_i32_1108 : BitVec 32 := 0#32
  let v1393 : BitVec 1 := Scalar.cmpi .eq c32_i32_1107 c0_i32_1108
  let c1_i32_1109 : BitVec 32 := 1#32
  let v1394 : BitVec 32 := Scalar.select v1393 c1_i32_1109 c32_i32_1107
  let v1395 : BitVec 32 := Scalar.remsi v1392 v1394
  let c0_i32_1111 : BitVec 32 := 0#32
  let v1397 : BitVec 1 := Scalar.cmpi .slt v1395 c0_i32_1111
  let c0_i32_1112 : BitVec 32 := 0#32
  let v1398 : BitVec 1 := Scalar.cmpi .slt v1394 c0_i32_1112
  let v1399 : BitVec 1 := Scalar.xori v1397 v1398
  let c0_i32_1110 : BitVec 32 := 0#32
  let v1396 : BitVec 1 := Scalar.cmpi .ne v1395 c0_i32_1110
  let v1400 : BitVec 1 := Scalar.andi v1399 v1396
  let v1401 : BitVec 32 := Scalar.addi v1395 v1394
  let v1402 : BitVec 32 := Scalar.select v1400 v1401 v1395
  let c1_i32_1116 : BitVec 32 := 1#32
  let v1404 : BitVec 32 := Scalar.muli v1402 c1_i32_1116
  let v1405 : BitVec 32 := Scalar.addi c0_i32_1117 v1404
  v1405.toNat
def k0_dev69 (d0 : Dev nD) : Nat :=
  let c0_i32_1130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1119 : BitVec 32 := 11#32
  let v1411 : BitVec 32 := Scalar.addi v2 c11_i32_1119
  let c32_i32_1120 : BitVec 32 := 32#32
  let c0_i32_1121 : BitVec 32 := 0#32
  let v1412 : BitVec 1 := Scalar.cmpi .eq c32_i32_1120 c0_i32_1121
  let c1_i32_1122 : BitVec 32 := 1#32
  let v1413 : BitVec 32 := Scalar.select v1412 c1_i32_1122 c32_i32_1120
  let v1414 : BitVec 32 := Scalar.remsi v1411 v1413
  let c0_i32_1124 : BitVec 32 := 0#32
  let v1416 : BitVec 1 := Scalar.cmpi .slt v1414 c0_i32_1124
  let c0_i32_1125 : BitVec 32 := 0#32
  let v1417 : BitVec 1 := Scalar.cmpi .slt v1413 c0_i32_1125
  let v1418 : BitVec 1 := Scalar.xori v1416 v1417
  let c0_i32_1123 : BitVec 32 := 0#32
  let v1415 : BitVec 1 := Scalar.cmpi .ne v1414 c0_i32_1123
  let v1419 : BitVec 1 := Scalar.andi v1418 v1415
  let v1420 : BitVec 32 := Scalar.addi v1414 v1413
  let v1421 : BitVec 32 := Scalar.select v1419 v1420 v1414
  let c1_i32_1129 : BitVec 32 := 1#32
  let v1423 : BitVec 32 := Scalar.muli v1421 c1_i32_1129
  let v1424 : BitVec 32 := Scalar.addi c0_i32_1130 v1423
  v1424.toNat
def k0_dev70 (d0 : Dev nD) : Nat :=
  let c0_i32_1143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1132 : BitVec 32 := 21#32
  let v1430 : BitVec 32 := Scalar.addi v2 c21_i32_1132
  let c32_i32_1133 : BitVec 32 := 32#32
  let c0_i32_1134 : BitVec 32 := 0#32
  let v1431 : BitVec 1 := Scalar.cmpi .eq c32_i32_1133 c0_i32_1134
  let c1_i32_1135 : BitVec 32 := 1#32
  let v1432 : BitVec 32 := Scalar.select v1431 c1_i32_1135 c32_i32_1133
  let v1433 : BitVec 32 := Scalar.remsi v1430 v1432
  let c0_i32_1137 : BitVec 32 := 0#32
  let v1435 : BitVec 1 := Scalar.cmpi .slt v1433 c0_i32_1137
  let c0_i32_1138 : BitVec 32 := 0#32
  let v1436 : BitVec 1 := Scalar.cmpi .slt v1432 c0_i32_1138
  let v1437 : BitVec 1 := Scalar.xori v1435 v1436
  let c0_i32_1136 : BitVec 32 := 0#32
  let v1434 : BitVec 1 := Scalar.cmpi .ne v1433 c0_i32_1136
  let v1438 : BitVec 1 := Scalar.andi v1437 v1434
  let v1439 : BitVec 32 := Scalar.addi v1433 v1432
  let v1440 : BitVec 32 := Scalar.select v1438 v1439 v1433
  let c1_i32_1142 : BitVec 32 := 1#32
  let v1442 : BitVec 32 := Scalar.muli v1440 c1_i32_1142
  let v1443 : BitVec 32 := Scalar.addi c0_i32_1143 v1442
  v1443.toNat
def k0_dev71 (d0 : Dev nD) : Nat :=
  let c0_i32_1156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1145 : BitVec 32 := 12#32
  let v1449 : BitVec 32 := Scalar.addi v2 c12_i32_1145
  let c32_i32_1146 : BitVec 32 := 32#32
  let c0_i32_1147 : BitVec 32 := 0#32
  let v1450 : BitVec 1 := Scalar.cmpi .eq c32_i32_1146 c0_i32_1147
  let c1_i32_1148 : BitVec 32 := 1#32
  let v1451 : BitVec 32 := Scalar.select v1450 c1_i32_1148 c32_i32_1146
  let v1452 : BitVec 32 := Scalar.remsi v1449 v1451
  let c0_i32_1150 : BitVec 32 := 0#32
  let v1454 : BitVec 1 := Scalar.cmpi .slt v1452 c0_i32_1150
  let c0_i32_1151 : BitVec 32 := 0#32
  let v1455 : BitVec 1 := Scalar.cmpi .slt v1451 c0_i32_1151
  let v1456 : BitVec 1 := Scalar.xori v1454 v1455
  let c0_i32_1149 : BitVec 32 := 0#32
  let v1453 : BitVec 1 := Scalar.cmpi .ne v1452 c0_i32_1149
  let v1457 : BitVec 1 := Scalar.andi v1456 v1453
  let v1458 : BitVec 32 := Scalar.addi v1452 v1451
  let v1459 : BitVec 32 := Scalar.select v1457 v1458 v1452
  let c1_i32_1155 : BitVec 32 := 1#32
  let v1461 : BitVec 32 := Scalar.muli v1459 c1_i32_1155
  let v1462 : BitVec 32 := Scalar.addi c0_i32_1156 v1461
  v1462.toNat
def k0_dev72 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1158 : BitVec 32 := 20#32
  let v1468 : BitVec 32 := Scalar.addi v2 c20_i32_1158
  let c32_i32_1159 : BitVec 32 := 32#32
  let c0_i32_1160 : BitVec 32 := 0#32
  let v1469 : BitVec 1 := Scalar.cmpi .eq c32_i32_1159 c0_i32_1160
  let c1_i32_1161 : BitVec 32 := 1#32
  let v1470 : BitVec 32 := Scalar.select v1469 c1_i32_1161 c32_i32_1159
  let v1471 : BitVec 32 := Scalar.remsi v1468 v1470
  let c0_i32_1163 : BitVec 32 := 0#32
  let v1473 : BitVec 1 := Scalar.cmpi .slt v1471 c0_i32_1163
  let c0_i32_1164 : BitVec 32 := 0#32
  let v1474 : BitVec 1 := Scalar.cmpi .slt v1470 c0_i32_1164
  let v1475 : BitVec 1 := Scalar.xori v1473 v1474
  let c0_i32_1162 : BitVec 32 := 0#32
  let v1472 : BitVec 1 := Scalar.cmpi .ne v1471 c0_i32_1162
  let v1476 : BitVec 1 := Scalar.andi v1475 v1472
  let v1477 : BitVec 32 := Scalar.addi v1471 v1470
  let v1478 : BitVec 32 := Scalar.select v1476 v1477 v1471
  let c1_i32_1168 : BitVec 32 := 1#32
  let v1480 : BitVec 32 := Scalar.muli v1478 c1_i32_1168
  let v1481 : BitVec 32 := Scalar.addi c0_i32_1169 v1480
  v1481.toNat
def k0_dev73 (d0 : Dev nD) : Nat :=
  let c0_i32_1182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1171 : BitVec 32 := 6#32
  let v1487 : BitVec 32 := Scalar.addi v2 c6_i32_1171
  let c32_i32_1172 : BitVec 32 := 32#32
  let c0_i32_1173 : BitVec 32 := 0#32
  let v1488 : BitVec 1 := Scalar.cmpi .eq c32_i32_1172 c0_i32_1173
  let c1_i32_1174 : BitVec 32 := 1#32
  let v1489 : BitVec 32 := Scalar.select v1488 c1_i32_1174 c32_i32_1172
  let v1490 : BitVec 32 := Scalar.remsi v1487 v1489
  let c0_i32_1176 : BitVec 32 := 0#32
  let v1492 : BitVec 1 := Scalar.cmpi .slt v1490 c0_i32_1176
  let c0_i32_1177 : BitVec 32 := 0#32
  let v1493 : BitVec 1 := Scalar.cmpi .slt v1489 c0_i32_1177
  let v1494 : BitVec 1 := Scalar.xori v1492 v1493
  let c0_i32_1175 : BitVec 32 := 0#32
  let v1491 : BitVec 1 := Scalar.cmpi .ne v1490 c0_i32_1175
  let v1495 : BitVec 1 := Scalar.andi v1494 v1491
  let v1496 : BitVec 32 := Scalar.addi v1490 v1489
  let v1497 : BitVec 32 := Scalar.select v1495 v1496 v1490
  let c1_i32_1181 : BitVec 32 := 1#32
  let v1499 : BitVec 32 := Scalar.muli v1497 c1_i32_1181
  let v1500 : BitVec 32 := Scalar.addi c0_i32_1182 v1499
  v1500.toNat
def k0_dev74 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1184 : BitVec 32 := 26#32
  let v1506 : BitVec 32 := Scalar.addi v2 c26_i32_1184
  let c32_i32_1185 : BitVec 32 := 32#32
  let c0_i32_1186 : BitVec 32 := 0#32
  let v1507 : BitVec 1 := Scalar.cmpi .eq c32_i32_1185 c0_i32_1186
  let c1_i32_1187 : BitVec 32 := 1#32
  let v1508 : BitVec 32 := Scalar.select v1507 c1_i32_1187 c32_i32_1185
  let v1509 : BitVec 32 := Scalar.remsi v1506 v1508
  let c0_i32_1189 : BitVec 32 := 0#32
  let v1511 : BitVec 1 := Scalar.cmpi .slt v1509 c0_i32_1189
  let c0_i32_1190 : BitVec 32 := 0#32
  let v1512 : BitVec 1 := Scalar.cmpi .slt v1508 c0_i32_1190
  let v1513 : BitVec 1 := Scalar.xori v1511 v1512
  let c0_i32_1188 : BitVec 32 := 0#32
  let v1510 : BitVec 1 := Scalar.cmpi .ne v1509 c0_i32_1188
  let v1514 : BitVec 1 := Scalar.andi v1513 v1510
  let v1515 : BitVec 32 := Scalar.addi v1509 v1508
  let v1516 : BitVec 32 := Scalar.select v1514 v1515 v1509
  let c1_i32_1194 : BitVec 32 := 1#32
  let v1518 : BitVec 32 := Scalar.muli v1516 c1_i32_1194
  let v1519 : BitVec 32 := Scalar.addi c0_i32_1195 v1518
  v1519.toNat
def k0_dev75 (d0 : Dev nD) : Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1197 : BitVec 32 := 5#32
  let v1525 : BitVec 32 := Scalar.addi v2 c5_i32_1197
  let c32_i32_1198 : BitVec 32 := 32#32
  let c0_i32_1199 : BitVec 32 := 0#32
  let v1526 : BitVec 1 := Scalar.cmpi .eq c32_i32_1198 c0_i32_1199
  let c1_i32_1200 : BitVec 32 := 1#32
  let v1527 : BitVec 32 := Scalar.select v1526 c1_i32_1200 c32_i32_1198
  let v1528 : BitVec 32 := Scalar.remsi v1525 v1527
  let c0_i32_1202 : BitVec 32 := 0#32
  let v1530 : BitVec 1 := Scalar.cmpi .slt v1528 c0_i32_1202
  let c0_i32_1203 : BitVec 32 := 0#32
  let v1531 : BitVec 1 := Scalar.cmpi .slt v1527 c0_i32_1203
  let v1532 : BitVec 1 := Scalar.xori v1530 v1531
  let c0_i32_1201 : BitVec 32 := 0#32
  let v1529 : BitVec 1 := Scalar.cmpi .ne v1528 c0_i32_1201
  let v1533 : BitVec 1 := Scalar.andi v1532 v1529
  let v1534 : BitVec 32 := Scalar.addi v1528 v1527
  let v1535 : BitVec 32 := Scalar.select v1533 v1534 v1528
  let c1_i32_1207 : BitVec 32 := 1#32
  let v1537 : BitVec 32 := Scalar.muli v1535 c1_i32_1207
  let v1538 : BitVec 32 := Scalar.addi c0_i32_1208 v1537
  v1538.toNat
def k0_dev76 (d0 : Dev nD) : Nat :=
  let c0_i32_1221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1210 : BitVec 32 := 15#32
  let v1544 : BitVec 32 := Scalar.addi v2 c15_i32_1210
  let c32_i32_1211 : BitVec 32 := 32#32
  let c0_i32_1212 : BitVec 32 := 0#32
  let v1545 : BitVec 1 := Scalar.cmpi .eq c32_i32_1211 c0_i32_1212
  let c1_i32_1213 : BitVec 32 := 1#32
  let v1546 : BitVec 32 := Scalar.select v1545 c1_i32_1213 c32_i32_1211
  let v1547 : BitVec 32 := Scalar.remsi v1544 v1546
  let c0_i32_1215 : BitVec 32 := 0#32
  let v1549 : BitVec 1 := Scalar.cmpi .slt v1547 c0_i32_1215
  let c0_i32_1216 : BitVec 32 := 0#32
  let v1550 : BitVec 1 := Scalar.cmpi .slt v1546 c0_i32_1216
  let v1551 : BitVec 1 := Scalar.xori v1549 v1550
  let c0_i32_1214 : BitVec 32 := 0#32
  let v1548 : BitVec 1 := Scalar.cmpi .ne v1547 c0_i32_1214
  let v1552 : BitVec 1 := Scalar.andi v1551 v1548
  let v1553 : BitVec 32 := Scalar.addi v1547 v1546
  let v1554 : BitVec 32 := Scalar.select v1552 v1553 v1547
  let c1_i32_1220 : BitVec 32 := 1#32
  let v1556 : BitVec 32 := Scalar.muli v1554 c1_i32_1220
  let v1557 : BitVec 32 := Scalar.addi c0_i32_1221 v1556
  v1557.toNat
def k0_dev77 (d0 : Dev nD) : Nat :=
  let c0_i32_1234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1223 : BitVec 32 := 17#32
  let v1563 : BitVec 32 := Scalar.addi v2 c17_i32_1223
  let c32_i32_1224 : BitVec 32 := 32#32
  let c0_i32_1225 : BitVec 32 := 0#32
  let v1564 : BitVec 1 := Scalar.cmpi .eq c32_i32_1224 c0_i32_1225
  let c1_i32_1226 : BitVec 32 := 1#32
  let v1565 : BitVec 32 := Scalar.select v1564 c1_i32_1226 c32_i32_1224
  let v1566 : BitVec 32 := Scalar.remsi v1563 v1565
  let c0_i32_1228 : BitVec 32 := 0#32
  let v1568 : BitVec 1 := Scalar.cmpi .slt v1566 c0_i32_1228
  let c0_i32_1229 : BitVec 32 := 0#32
  let v1569 : BitVec 1 := Scalar.cmpi .slt v1565 c0_i32_1229
  let v1570 : BitVec 1 := Scalar.xori v1568 v1569
  let c0_i32_1227 : BitVec 32 := 0#32
  let v1567 : BitVec 1 := Scalar.cmpi .ne v1566 c0_i32_1227
  let v1571 : BitVec 1 := Scalar.andi v1570 v1567
  let v1572 : BitVec 32 := Scalar.addi v1566 v1565
  let v1573 : BitVec 32 := Scalar.select v1571 v1572 v1566
  let c1_i32_1233 : BitVec 32 := 1#32
  let v1575 : BitVec 32 := Scalar.muli v1573 c1_i32_1233
  let v1576 : BitVec 32 := Scalar.addi c0_i32_1234 v1575
  v1576.toNat
def k0_dev78 (d0 : Dev nD) : Nat :=
  let c0_i32_1247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1236 : BitVec 32 := 27#32
  let v1582 : BitVec 32 := Scalar.addi v2 c27_i32_1236
  let c32_i32_1237 : BitVec 32 := 32#32
  let c0_i32_1238 : BitVec 32 := 0#32
  let v1583 : BitVec 1 := Scalar.cmpi .eq c32_i32_1237 c0_i32_1238
  let c1_i32_1239 : BitVec 32 := 1#32
  let v1584 : BitVec 32 := Scalar.select v1583 c1_i32_1239 c32_i32_1237
  let v1585 : BitVec 32 := Scalar.remsi v1582 v1584
  let c0_i32_1241 : BitVec 32 := 0#32
  let v1587 : BitVec 1 := Scalar.cmpi .slt v1585 c0_i32_1241
  let c0_i32_1242 : BitVec 32 := 0#32
  let v1588 : BitVec 1 := Scalar.cmpi .slt v1584 c0_i32_1242
  let v1589 : BitVec 1 := Scalar.xori v1587 v1588
  let c0_i32_1240 : BitVec 32 := 0#32
  let v1586 : BitVec 1 := Scalar.cmpi .ne v1585 c0_i32_1240
  let v1590 : BitVec 1 := Scalar.andi v1589 v1586
  let v1591 : BitVec 32 := Scalar.addi v1585 v1584
  let v1592 : BitVec 32 := Scalar.select v1590 v1591 v1585
  let c1_i32_1246 : BitVec 32 := 1#32
  let v1594 : BitVec 32 := Scalar.muli v1592 c1_i32_1246
  let v1595 : BitVec 32 := Scalar.addi c0_i32_1247 v1594
  v1595.toNat
def k0_dev79 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1249 : BitVec 32 := 2#32
  let v1601 : BitVec 32 := Scalar.addi v2 c2_i32_1249
  let c32_i32_1250 : BitVec 32 := 32#32
  let c0_i32_1251 : BitVec 32 := 0#32
  let v1602 : BitVec 1 := Scalar.cmpi .eq c32_i32_1250 c0_i32_1251
  let c1_i32_1252 : BitVec 32 := 1#32
  let v1603 : BitVec 32 := Scalar.select v1602 c1_i32_1252 c32_i32_1250
  let v1604 : BitVec 32 := Scalar.remsi v1601 v1603
  let c0_i32_1254 : BitVec 32 := 0#32
  let v1606 : BitVec 1 := Scalar.cmpi .slt v1604 c0_i32_1254
  let c0_i32_1255 : BitVec 32 := 0#32
  let v1607 : BitVec 1 := Scalar.cmpi .slt v1603 c0_i32_1255
  let v1608 : BitVec 1 := Scalar.xori v1606 v1607
  let c0_i32_1253 : BitVec 32 := 0#32
  let v1605 : BitVec 1 := Scalar.cmpi .ne v1604 c0_i32_1253
  let v1609 : BitVec 1 := Scalar.andi v1608 v1605
  let v1610 : BitVec 32 := Scalar.addi v1604 v1603
  let v1611 : BitVec 32 := Scalar.select v1609 v1610 v1604
  let c1_i32_1259 : BitVec 32 := 1#32
  let v1613 : BitVec 32 := Scalar.muli v1611 c1_i32_1259
  let v1614 : BitVec 32 := Scalar.addi c0_i32_1260 v1613
  v1614.toNat
def k0_dev80 (d0 : Dev nD) : Nat :=
  let c0_i32_1273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1262 : BitVec 32 := 30#32
  let v1620 : BitVec 32 := Scalar.addi v2 c30_i32_1262
  let c32_i32_1263 : BitVec 32 := 32#32
  let c0_i32_1264 : BitVec 32 := 0#32
  let v1621 : BitVec 1 := Scalar.cmpi .eq c32_i32_1263 c0_i32_1264
  let c1_i32_1265 : BitVec 32 := 1#32
  let v1622 : BitVec 32 := Scalar.select v1621 c1_i32_1265 c32_i32_1263
  let v1623 : BitVec 32 := Scalar.remsi v1620 v1622
  let c0_i32_1267 : BitVec 32 := 0#32
  let v1625 : BitVec 1 := Scalar.cmpi .slt v1623 c0_i32_1267
  let c0_i32_1268 : BitVec 32 := 0#32
  let v1626 : BitVec 1 := Scalar.cmpi .slt v1622 c0_i32_1268
  let v1627 : BitVec 1 := Scalar.xori v1625 v1626
  let c0_i32_1266 : BitVec 32 := 0#32
  let v1624 : BitVec 1 := Scalar.cmpi .ne v1623 c0_i32_1266
  let v1628 : BitVec 1 := Scalar.andi v1627 v1624
  let v1629 : BitVec 32 := Scalar.addi v1623 v1622
  let v1630 : BitVec 32 := Scalar.select v1628 v1629 v1623
  let c1_i32_1272 : BitVec 32 := 1#32
  let v1632 : BitVec 32 := Scalar.muli v1630 c1_i32_1272
  let v1633 : BitVec 32 := Scalar.addi c0_i32_1273 v1632
  v1633.toNat
def k0_dev81 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1275 : BitVec 32 := 3#32
  let v1639 : BitVec 32 := Scalar.addi v2 c3_i32_1275
  let c32_i32_1276 : BitVec 32 := 32#32
  let c0_i32_1277 : BitVec 32 := 0#32
  let v1640 : BitVec 1 := Scalar.cmpi .eq c32_i32_1276 c0_i32_1277
  let c1_i32_1278 : BitVec 32 := 1#32
  let v1641 : BitVec 32 := Scalar.select v1640 c1_i32_1278 c32_i32_1276
  let v1642 : BitVec 32 := Scalar.remsi v1639 v1641
  let c0_i32_1280 : BitVec 32 := 0#32
  let v1644 : BitVec 1 := Scalar.cmpi .slt v1642 c0_i32_1280
  let c0_i32_1281 : BitVec 32 := 0#32
  let v1645 : BitVec 1 := Scalar.cmpi .slt v1641 c0_i32_1281
  let v1646 : BitVec 1 := Scalar.xori v1644 v1645
  let c0_i32_1279 : BitVec 32 := 0#32
  let v1643 : BitVec 1 := Scalar.cmpi .ne v1642 c0_i32_1279
  let v1647 : BitVec 1 := Scalar.andi v1646 v1643
  let v1648 : BitVec 32 := Scalar.addi v1642 v1641
  let v1649 : BitVec 32 := Scalar.select v1647 v1648 v1642
  let c1_i32_1285 : BitVec 32 := 1#32
  let v1651 : BitVec 32 := Scalar.muli v1649 c1_i32_1285
  let v1652 : BitVec 32 := Scalar.addi c0_i32_1286 v1651
  v1652.toNat
def k0_dev82 (d0 : Dev nD) : Nat :=
  let c0_i32_1299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1288 : BitVec 32 := 29#32
  let v1658 : BitVec 32 := Scalar.addi v2 c29_i32_1288
  let c32_i32_1289 : BitVec 32 := 32#32
  let c0_i32_1290 : BitVec 32 := 0#32
  let v1659 : BitVec 1 := Scalar.cmpi .eq c32_i32_1289 c0_i32_1290
  let c1_i32_1291 : BitVec 32 := 1#32
  let v1660 : BitVec 32 := Scalar.select v1659 c1_i32_1291 c32_i32_1289
  let v1661 : BitVec 32 := Scalar.remsi v1658 v1660
  let c0_i32_1293 : BitVec 32 := 0#32
  let v1663 : BitVec 1 := Scalar.cmpi .slt v1661 c0_i32_1293
  let c0_i32_1294 : BitVec 32 := 0#32
  let v1664 : BitVec 1 := Scalar.cmpi .slt v1660 c0_i32_1294
  let v1665 : BitVec 1 := Scalar.xori v1663 v1664
  let c0_i32_1292 : BitVec 32 := 0#32
  let v1662 : BitVec 1 := Scalar.cmpi .ne v1661 c0_i32_1292
  let v1666 : BitVec 1 := Scalar.andi v1665 v1662
  let v1667 : BitVec 32 := Scalar.addi v1661 v1660
  let v1668 : BitVec 32 := Scalar.select v1666 v1667 v1661
  let c1_i32_1298 : BitVec 32 := 1#32
  let v1670 : BitVec 32 := Scalar.muli v1668 c1_i32_1298
  let v1671 : BitVec 32 := Scalar.addi c0_i32_1299 v1670
  v1671.toNat
def k0_dev83 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1301 : BitVec 32 := 9#32
  let v1677 : BitVec 32 := Scalar.addi v2 c9_i32_1301
  let c32_i32_1302 : BitVec 32 := 32#32
  let c0_i32_1303 : BitVec 32 := 0#32
  let v1678 : BitVec 1 := Scalar.cmpi .eq c32_i32_1302 c0_i32_1303
  let c1_i32_1304 : BitVec 32 := 1#32
  let v1679 : BitVec 32 := Scalar.select v1678 c1_i32_1304 c32_i32_1302
  let v1680 : BitVec 32 := Scalar.remsi v1677 v1679
  let c0_i32_1306 : BitVec 32 := 0#32
  let v1682 : BitVec 1 := Scalar.cmpi .slt v1680 c0_i32_1306
  let c0_i32_1307 : BitVec 32 := 0#32
  let v1683 : BitVec 1 := Scalar.cmpi .slt v1679 c0_i32_1307
  let v1684 : BitVec 1 := Scalar.xori v1682 v1683
  let c0_i32_1305 : BitVec 32 := 0#32
  let v1681 : BitVec 1 := Scalar.cmpi .ne v1680 c0_i32_1305
  let v1685 : BitVec 1 := Scalar.andi v1684 v1681
  let v1686 : BitVec 32 := Scalar.addi v1680 v1679
  let v1687 : BitVec 32 := Scalar.select v1685 v1686 v1680
  let c1_i32_1311 : BitVec 32 := 1#32
  let v1689 : BitVec 32 := Scalar.muli v1687 c1_i32_1311
  let v1690 : BitVec 32 := Scalar.addi c0_i32_1312 v1689
  v1690.toNat
def k0_dev84 (d0 : Dev nD) : Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1314 : BitVec 32 := 23#32
  let v1696 : BitVec 32 := Scalar.addi v2 c23_i32_1314
  let c32_i32_1315 : BitVec 32 := 32#32
  let c0_i32_1316 : BitVec 32 := 0#32
  let v1697 : BitVec 1 := Scalar.cmpi .eq c32_i32_1315 c0_i32_1316
  let c1_i32_1317 : BitVec 32 := 1#32
  let v1698 : BitVec 32 := Scalar.select v1697 c1_i32_1317 c32_i32_1315
  let v1699 : BitVec 32 := Scalar.remsi v1696 v1698
  let c0_i32_1319 : BitVec 32 := 0#32
  let v1701 : BitVec 1 := Scalar.cmpi .slt v1699 c0_i32_1319
  let c0_i32_1320 : BitVec 32 := 0#32
  let v1702 : BitVec 1 := Scalar.cmpi .slt v1698 c0_i32_1320
  let v1703 : BitVec 1 := Scalar.xori v1701 v1702
  let c0_i32_1318 : BitVec 32 := 0#32
  let v1700 : BitVec 1 := Scalar.cmpi .ne v1699 c0_i32_1318
  let v1704 : BitVec 1 := Scalar.andi v1703 v1700
  let v1705 : BitVec 32 := Scalar.addi v1699 v1698
  let v1706 : BitVec 32 := Scalar.select v1704 v1705 v1699
  let c1_i32_1324 : BitVec 32 := 1#32
  let v1708 : BitVec 32 := Scalar.muli v1706 c1_i32_1324
  let v1709 : BitVec 32 := Scalar.addi c0_i32_1325 v1708
  v1709.toNat
def k0_dev85 (d0 : Dev nD) : Nat :=
  let c0_i32_1338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1327 : BitVec 32 := 4#32
  let v1715 : BitVec 32 := Scalar.addi v2 c4_i32_1327
  let c32_i32_1328 : BitVec 32 := 32#32
  let c0_i32_1329 : BitVec 32 := 0#32
  let v1716 : BitVec 1 := Scalar.cmpi .eq c32_i32_1328 c0_i32_1329
  let c1_i32_1330 : BitVec 32 := 1#32
  let v1717 : BitVec 32 := Scalar.select v1716 c1_i32_1330 c32_i32_1328
  let v1718 : BitVec 32 := Scalar.remsi v1715 v1717
  let c0_i32_1332 : BitVec 32 := 0#32
  let v1720 : BitVec 1 := Scalar.cmpi .slt v1718 c0_i32_1332
  let c0_i32_1333 : BitVec 32 := 0#32
  let v1721 : BitVec 1 := Scalar.cmpi .slt v1717 c0_i32_1333
  let v1722 : BitVec 1 := Scalar.xori v1720 v1721
  let c0_i32_1331 : BitVec 32 := 0#32
  let v1719 : BitVec 1 := Scalar.cmpi .ne v1718 c0_i32_1331
  let v1723 : BitVec 1 := Scalar.andi v1722 v1719
  let v1724 : BitVec 32 := Scalar.addi v1718 v1717
  let v1725 : BitVec 32 := Scalar.select v1723 v1724 v1718
  let c1_i32_1337 : BitVec 32 := 1#32
  let v1727 : BitVec 32 := Scalar.muli v1725 c1_i32_1337
  let v1728 : BitVec 32 := Scalar.addi c0_i32_1338 v1727
  v1728.toNat
def k0_dev86 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1340 : BitVec 32 := 28#32
  let v1734 : BitVec 32 := Scalar.addi v2 c28_i32_1340
  let c32_i32_1341 : BitVec 32 := 32#32
  let c0_i32_1342 : BitVec 32 := 0#32
  let v1735 : BitVec 1 := Scalar.cmpi .eq c32_i32_1341 c0_i32_1342
  let c1_i32_1343 : BitVec 32 := 1#32
  let v1736 : BitVec 32 := Scalar.select v1735 c1_i32_1343 c32_i32_1341
  let v1737 : BitVec 32 := Scalar.remsi v1734 v1736
  let c0_i32_1345 : BitVec 32 := 0#32
  let v1739 : BitVec 1 := Scalar.cmpi .slt v1737 c0_i32_1345
  let c0_i32_1346 : BitVec 32 := 0#32
  let v1740 : BitVec 1 := Scalar.cmpi .slt v1736 c0_i32_1346
  let v1741 : BitVec 1 := Scalar.xori v1739 v1740
  let c0_i32_1344 : BitVec 32 := 0#32
  let v1738 : BitVec 1 := Scalar.cmpi .ne v1737 c0_i32_1344
  let v1742 : BitVec 1 := Scalar.andi v1741 v1738
  let v1743 : BitVec 32 := Scalar.addi v1737 v1736
  let v1744 : BitVec 32 := Scalar.select v1742 v1743 v1737
  let c1_i32_1350 : BitVec 32 := 1#32
  let v1746 : BitVec 32 := Scalar.muli v1744 c1_i32_1350
  let v1747 : BitVec 32 := Scalar.addi c0_i32_1351 v1746
  v1747.toNat
def k0_dev87 (d0 : Dev nD) : Nat :=
  let c0_i32_1364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1353 : BitVec 32 := 7#32
  let v1753 : BitVec 32 := Scalar.addi v2 c7_i32_1353
  let c32_i32_1354 : BitVec 32 := 32#32
  let c0_i32_1355 : BitVec 32 := 0#32
  let v1754 : BitVec 1 := Scalar.cmpi .eq c32_i32_1354 c0_i32_1355
  let c1_i32_1356 : BitVec 32 := 1#32
  let v1755 : BitVec 32 := Scalar.select v1754 c1_i32_1356 c32_i32_1354
  let v1756 : BitVec 32 := Scalar.remsi v1753 v1755
  let c0_i32_1358 : BitVec 32 := 0#32
  let v1758 : BitVec 1 := Scalar.cmpi .slt v1756 c0_i32_1358
  let c0_i32_1359 : BitVec 32 := 0#32
  let v1759 : BitVec 1 := Scalar.cmpi .slt v1755 c0_i32_1359
  let v1760 : BitVec 1 := Scalar.xori v1758 v1759
  let c0_i32_1357 : BitVec 32 := 0#32
  let v1757 : BitVec 1 := Scalar.cmpi .ne v1756 c0_i32_1357
  let v1761 : BitVec 1 := Scalar.andi v1760 v1757
  let v1762 : BitVec 32 := Scalar.addi v1756 v1755
  let v1763 : BitVec 32 := Scalar.select v1761 v1762 v1756
  let c1_i32_1363 : BitVec 32 := 1#32
  let v1765 : BitVec 32 := Scalar.muli v1763 c1_i32_1363
  let v1766 : BitVec 32 := Scalar.addi c0_i32_1364 v1765
  v1766.toNat
def k0_dev88 (d0 : Dev nD) : Nat :=
  let c0_i32_1377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1366 : BitVec 32 := 25#32
  let v1772 : BitVec 32 := Scalar.addi v2 c25_i32_1366
  let c32_i32_1367 : BitVec 32 := 32#32
  let c0_i32_1368 : BitVec 32 := 0#32
  let v1773 : BitVec 1 := Scalar.cmpi .eq c32_i32_1367 c0_i32_1368
  let c1_i32_1369 : BitVec 32 := 1#32
  let v1774 : BitVec 32 := Scalar.select v1773 c1_i32_1369 c32_i32_1367
  let v1775 : BitVec 32 := Scalar.remsi v1772 v1774
  let c0_i32_1371 : BitVec 32 := 0#32
  let v1777 : BitVec 1 := Scalar.cmpi .slt v1775 c0_i32_1371
  let c0_i32_1372 : BitVec 32 := 0#32
  let v1778 : BitVec 1 := Scalar.cmpi .slt v1774 c0_i32_1372
  let v1779 : BitVec 1 := Scalar.xori v1777 v1778
  let c0_i32_1370 : BitVec 32 := 0#32
  let v1776 : BitVec 1 := Scalar.cmpi .ne v1775 c0_i32_1370
  let v1780 : BitVec 1 := Scalar.andi v1779 v1776
  let v1781 : BitVec 32 := Scalar.addi v1775 v1774
  let v1782 : BitVec 32 := Scalar.select v1780 v1781 v1775
  let c1_i32_1376 : BitVec 32 := 1#32
  let v1784 : BitVec 32 := Scalar.muli v1782 c1_i32_1376
  let v1785 : BitVec 32 := Scalar.addi c0_i32_1377 v1784
  v1785.toNat
def k0_dev89 (d0 : Dev nD) : Nat :=
  let c0_i32_1390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1379 : BitVec 32 := 16#32
  let v1791 : BitVec 32 := Scalar.addi v2 c16_i32_1379
  let c32_i32_1380 : BitVec 32 := 32#32
  let c0_i32_1381 : BitVec 32 := 0#32
  let v1792 : BitVec 1 := Scalar.cmpi .eq c32_i32_1380 c0_i32_1381
  let c1_i32_1382 : BitVec 32 := 1#32
  let v1793 : BitVec 32 := Scalar.select v1792 c1_i32_1382 c32_i32_1380
  let v1794 : BitVec 32 := Scalar.remsi v1791 v1793
  let c0_i32_1384 : BitVec 32 := 0#32
  let v1796 : BitVec 1 := Scalar.cmpi .slt v1794 c0_i32_1384
  let c0_i32_1385 : BitVec 32 := 0#32
  let v1797 : BitVec 1 := Scalar.cmpi .slt v1793 c0_i32_1385
  let v1798 : BitVec 1 := Scalar.xori v1796 v1797
  let c0_i32_1383 : BitVec 32 := 0#32
  let v1795 : BitVec 1 := Scalar.cmpi .ne v1794 c0_i32_1383
  let v1799 : BitVec 1 := Scalar.andi v1798 v1795
  let v1800 : BitVec 32 := Scalar.addi v1794 v1793
  let v1801 : BitVec 32 := Scalar.select v1799 v1800 v1794
  let c1_i32_1389 : BitVec 32 := 1#32
  let v1803 : BitVec 32 := Scalar.muli v1801 c1_i32_1389
  let v1804 : BitVec 32 := Scalar.addi c0_i32_1390 v1803
  v1804.toNat
def k0_dev90 (d0 : Dev nD) : Nat :=
  let c0_i32_1403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1392 : BitVec 32 := 8#32
  let v1810 : BitVec 32 := Scalar.addi v2 c8_i32_1392
  let c32_i32_1393 : BitVec 32 := 32#32
  let c0_i32_1394 : BitVec 32 := 0#32
  let v1811 : BitVec 1 := Scalar.cmpi .eq c32_i32_1393 c0_i32_1394
  let c1_i32_1395 : BitVec 32 := 1#32
  let v1812 : BitVec 32 := Scalar.select v1811 c1_i32_1395 c32_i32_1393
  let v1813 : BitVec 32 := Scalar.remsi v1810 v1812
  let c0_i32_1397 : BitVec 32 := 0#32
  let v1815 : BitVec 1 := Scalar.cmpi .slt v1813 c0_i32_1397
  let c0_i32_1398 : BitVec 32 := 0#32
  let v1816 : BitVec 1 := Scalar.cmpi .slt v1812 c0_i32_1398
  let v1817 : BitVec 1 := Scalar.xori v1815 v1816
  let c0_i32_1396 : BitVec 32 := 0#32
  let v1814 : BitVec 1 := Scalar.cmpi .ne v1813 c0_i32_1396
  let v1818 : BitVec 1 := Scalar.andi v1817 v1814
  let v1819 : BitVec 32 := Scalar.addi v1813 v1812
  let v1820 : BitVec 32 := Scalar.select v1818 v1819 v1813
  let c1_i32_1402 : BitVec 32 := 1#32
  let v1822 : BitVec 32 := Scalar.muli v1820 c1_i32_1402
  let v1823 : BitVec 32 := Scalar.addi c0_i32_1403 v1822
  v1823.toNat
def k0_dev91 (d0 : Dev nD) : Nat :=
  let c0_i32_1416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1405 : BitVec 32 := 24#32
  let v1829 : BitVec 32 := Scalar.addi v2 c24_i32_1405
  let c32_i32_1406 : BitVec 32 := 32#32
  let c0_i32_1407 : BitVec 32 := 0#32
  let v1830 : BitVec 1 := Scalar.cmpi .eq c32_i32_1406 c0_i32_1407
  let c1_i32_1408 : BitVec 32 := 1#32
  let v1831 : BitVec 32 := Scalar.select v1830 c1_i32_1408 c32_i32_1406
  let v1832 : BitVec 32 := Scalar.remsi v1829 v1831
  let c0_i32_1410 : BitVec 32 := 0#32
  let v1834 : BitVec 1 := Scalar.cmpi .slt v1832 c0_i32_1410
  let c0_i32_1411 : BitVec 32 := 0#32
  let v1835 : BitVec 1 := Scalar.cmpi .slt v1831 c0_i32_1411
  let v1836 : BitVec 1 := Scalar.xori v1834 v1835
  let c0_i32_1409 : BitVec 32 := 0#32
  let v1833 : BitVec 1 := Scalar.cmpi .ne v1832 c0_i32_1409
  let v1837 : BitVec 1 := Scalar.andi v1836 v1833
  let v1838 : BitVec 32 := Scalar.addi v1832 v1831
  let v1839 : BitVec 32 := Scalar.select v1837 v1838 v1832
  let c1_i32_1415 : BitVec 32 := 1#32
  let v1841 : BitVec 32 := Scalar.muli v1839 c1_i32_1415
  let v1842 : BitVec 32 := Scalar.addi c0_i32_1416 v1841
  v1842.toNat
def k0_dev92 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1418 : BitVec 32 := 1#32
  let v1848 : BitVec 32 := Scalar.addi v2 c1_i32_1418
  let c32_i32_1419 : BitVec 32 := 32#32
  let c0_i32_1420 : BitVec 32 := 0#32
  let v1849 : BitVec 1 := Scalar.cmpi .eq c32_i32_1419 c0_i32_1420
  let c1_i32_1421 : BitVec 32 := 1#32
  let v1850 : BitVec 32 := Scalar.select v1849 c1_i32_1421 c32_i32_1419
  let v1851 : BitVec 32 := Scalar.remsi v1848 v1850
  let c0_i32_1423 : BitVec 32 := 0#32
  let v1853 : BitVec 1 := Scalar.cmpi .slt v1851 c0_i32_1423
  let c0_i32_1424 : BitVec 32 := 0#32
  let v1854 : BitVec 1 := Scalar.cmpi .slt v1850 c0_i32_1424
  let v1855 : BitVec 1 := Scalar.xori v1853 v1854
  let c0_i32_1422 : BitVec 32 := 0#32
  let v1852 : BitVec 1 := Scalar.cmpi .ne v1851 c0_i32_1422
  let v1856 : BitVec 1 := Scalar.andi v1855 v1852
  let v1857 : BitVec 32 := Scalar.addi v1851 v1850
  let v1858 : BitVec 32 := Scalar.select v1856 v1857 v1851
  let c1_i32_1428 : BitVec 32 := 1#32
  let v1860 : BitVec 32 := Scalar.muli v1858 c1_i32_1428
  let v1861 : BitVec 32 := Scalar.addi c0_i32_1429 v1860
  v1861.toNat
def k0_dev93 (d0 : Dev nD) : Nat :=
  let c0_i32_1442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1431 : BitVec 32 := 31#32
  let v1867 : BitVec 32 := Scalar.addi v2 c31_i32_1431
  let c32_i32_1432 : BitVec 32 := 32#32
  let c0_i32_1433 : BitVec 32 := 0#32
  let v1868 : BitVec 1 := Scalar.cmpi .eq c32_i32_1432 c0_i32_1433
  let c1_i32_1434 : BitVec 32 := 1#32
  let v1869 : BitVec 32 := Scalar.select v1868 c1_i32_1434 c32_i32_1432
  let v1870 : BitVec 32 := Scalar.remsi v1867 v1869
  let c0_i32_1436 : BitVec 32 := 0#32
  let v1872 : BitVec 1 := Scalar.cmpi .slt v1870 c0_i32_1436
  let c0_i32_1437 : BitVec 32 := 0#32
  let v1873 : BitVec 1 := Scalar.cmpi .slt v1869 c0_i32_1437
  let v1874 : BitVec 1 := Scalar.xori v1872 v1873
  let c0_i32_1435 : BitVec 32 := 0#32
  let v1871 : BitVec 1 := Scalar.cmpi .ne v1870 c0_i32_1435
  let v1875 : BitVec 1 := Scalar.andi v1874 v1871
  let v1876 : BitVec 32 := Scalar.addi v1870 v1869
  let v1877 : BitVec 32 := Scalar.select v1875 v1876 v1870
  let c1_i32_1441 : BitVec 32 := 1#32
  let v1879 : BitVec 32 := Scalar.muli v1877 c1_i32_1441
  let v1880 : BitVec 32 := Scalar.addi c0_i32_1442 v1879
  v1880.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x256 : Shape := ⟨2, ![256, 256]⟩
abbrev S256x16384 : Shape := ⟨2, ![256, 16384]⟩
abbrev S16384x256 : Shape := ⟨2, ![16384, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x16384, .f32⟩
  | .hbm, ⟨2, _⟩ => ⟨S16384x256, .f32⟩
  | .hbm, ⟨3, _⟩ => ⟨S256x16384, .f32⟩
  | .hbm, ⟨4, _⟩ => ⟨S_, .f32⟩
  | .hbm, ⟨5, _⟩ => ⟨S256x16384, .f32⟩
  | .hbm, ⟨6, _⟩ => ⟨S256x16384, .f32⟩
  | .hbm, ⟨7, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Segments.lean ====
/-
# The kernel's body as seven runs over lists of hops

The printed body is one long sequence of signals, transfers and waits, one for each of the thirty-one hops `d`. Here it is
written again as seven segments, each one effect repeated over a list of hops: the barrier signals, the transfers of the partial
sums, the waits for them, the transfers of the reduced rows, the waits for those, and the waits for the sources of both.
The two are equal by unfolding (`body_eq`).
-/
module

public import proofs.«01_k».proof.Proof.Gen.KernelIdeal
public import proofs.«01_k».proof.Proof.Gen.KernelIdeal.Skeleton
public import Idealize.ShloMosaic.Lib.Pipeline.Regions

@[expose] public section

noncomputable section

namespace Cert.Exchange

open Cert.KernelIdeal Cert.KernelIdeal.Gen
open Idealize.ShloMosaic Idealize.ShloMosaic.TcCoe
open Idealize.SL.Sem

variable {F : FTy → Type} [FloatOps F]

/-! ## The memrefs and semaphores -/

abbrev xM : Memref sig .tc .vmem S256x256 .f32 := Memref.whole cc0_stg0_0
abbrev w1M : Memref sig .tc .vmem S256x512 .f32 := Memref.whole cc0_stg1_0
abbrev w2M : Memref sig .tc .vmem S512x256 .f32 := Memref.whole cc0_stg2_0
abbrev outM : Memref sig .tc .vmem S256x256 .f32 := Memref.whole cc0_stg3_0
abbrev accM : Memref sig .tc .vmem S256x256 .f32 := Memref.whole cc0_scratch0
abbrev rcvM : Memref sig .tc .vmem S31x8x256 .f32 := Memref.whole cc0_scratch1
abbrev redM : Memref sig .tc .vmem S8x256 .f32 := Memref.whole cc0_scratch2

/-- The barrier semaphore, which every device of the mesh signals on every other. -/
abbrev barS : Sem sig := (SemArray.scalar (sig.barrier 0 rfl) : Sems sig S_).sem

theorem inb_sem (k : Fin 31) : ∀ a, (![k.val] : Fin 1 → Nat) a + S1.size a ≤ S31.size a := by revert k; decide
theorem inb_slot (k : Fin 31) : ∀ a, (![k.val, 0, 0] : Fin 3 → Nat) a + S1x8x256.size a ≤ S31x8x256.size a := by revert k; decide

/-- Semaphore `k` of an array of thirty-one. -/
abbrev semAt (a : DmaSems sig S31) (k : Fin 31) : DmaSem sig :=
  ((a.slice (Rect.unit (s := S31) ![k.val] S1.size (inb_sem k))).squeeze S_ squeezes_S1_S_).sem

abbrev send1 (k : Fin 31) : DmaSem sig := semAt cc0_scratch3 k
abbrev recv1 (k : Fin 31) : DmaSem sig := semAt cc0_scratch4 k
abbrev send2 (k : Fin 31) : DmaSem sig := semAt cc0_scratch5 k
abbrev recv2 (k : Fin 31) : DmaSem sig := semAt cc0_scratch6 k

/-- Slot `k` of the landing buffer of the partial sums. -/
abbrev slotM (k : Fin 31) : Memref sig .tc .vmem S8x256 .f32 :=
  (rcvM.slice (Rect.unit (s := S31x8x256) ![k.val, 0, 0] S1x8x256.size (inb_slot k)) (fun _ => rfl)).squeeze S8x256 squeezes_S1x8x256_S8x256
/-- The rows of the partial sums that device `c` sends over hop `k`. -/
abbrev srcM (c : Dev nD) (k : Fin 31) : Memref sig .tc .vmem S8x256 .f32 :=
  accM.slice (Rect.unit (s := S256x256) (k0_off1 c (BitVec.ofNat 32 (1 + k.val))) S8x256.size (k0_off1_inb c k)) (fun _ => rfl)
/-- The rows of the result that device `c` reduces. -/
abbrev dstM (c : Dev nD) : Memref sig .tc .vmem S8x256 .f32 :=
  outM.slice (Rect.unit (s := S256x256) (k0_off3 c) S8x256.size (k0_off3_inb c)) (fun _ => rfl)

abbrev rX : Rect S256x256 := Rect.unit (s := S256x256) ![0, 0] S256x256.size inb_S256x256_S256x256_0_0
abbrev rW1 : Rect S256x512 := Rect.unit (s := S256x512) ![0, 0] S256x512.size inb_S256x512_S256x512_0_0
abbrev rW2 : Rect S512x256 := Rect.unit (s := S512x256) ![0, 0] S512x256.size inb_S512x256_S512x256_0_0
abbrev rRcv : Rect S31x8x256 := Rect.unit (s := S31x8x256) ![0, 0, 0] S31x8x256.size inb_S31x8x256_S31x8x256_0_0_0
abbrev rRed : Rect S8x256 := Rect.unit (s := S8x256) ![0, 0] S8x256.size inb_S8x256_S8x256_0_0
abbrev rOwn (c : Dev nD) : Rect S256x256 := Rect.unit (s := S256x256) (k0_off2 c) S8x256.size (k0_off2_inb c)

/-! ## Hops -/

/-- A hop: the number `k` of its slot and semaphores, and the device that the printed chain of words computes for it. -/
structure Hop where
  k : Fin 31
  dev : Dev nD → Dev nD

/-- The hops in the order in which the barrier is signalled. -/
def sigHops : List Hop := [
   ⟨0, fun c => ⟨k0_dev1 c, k0_dev1_lt c⟩⟩, ⟨1, fun c => ⟨k0_dev2 c, k0_dev2_lt c⟩⟩, ⟨2, fun c => ⟨k0_dev3 c, k0_dev3_lt c⟩⟩,
   ⟨3, fun c => ⟨k0_dev4 c, k0_dev4_lt c⟩⟩, ⟨4, fun c => ⟨k0_dev5 c, k0_dev5_lt c⟩⟩, ⟨5, fun c => ⟨k0_dev6 c, k0_dev6_lt c⟩⟩,
   ⟨6, fun c => ⟨k0_dev7 c, k0_dev7_lt c⟩⟩, ⟨7, fun c => ⟨k0_dev8 c, k0_dev8_lt c⟩⟩, ⟨8, fun c => ⟨k0_dev9 c, k0_dev9_lt c⟩⟩,
   ⟨9, fun c => ⟨k0_dev10 c, k0_dev10_lt c⟩⟩, ⟨10, fun c => ⟨k0_dev11 c, k0_dev11_lt c⟩⟩, ⟨11, fun c => ⟨k0_dev12 c, k0_dev12_lt c⟩⟩,
   ⟨12, fun c => ⟨k0_dev13 c, k0_dev13_lt c⟩⟩, ⟨13, fun c => ⟨k0_dev14 c, k0_dev14_lt c⟩⟩, ⟨14, fun c => ⟨k0_dev15 c, k0_dev15_lt c⟩⟩,
   ⟨15, fun c => ⟨k0_dev16 c, k0_dev16_lt c⟩⟩, ⟨16, fun c => ⟨k0_dev17 c, k0_dev17_lt c⟩⟩, ⟨17, fun c => ⟨k0_dev18 c, k0_dev18_lt c⟩⟩,
   ⟨18, fun c => ⟨k0_dev19 c, k0_dev19_lt c⟩⟩, ⟨19, fun c => ⟨k0_dev20 c, k0_dev20_lt c⟩⟩, ⟨20, fun c => ⟨k0_dev21 c, k0_dev21_lt c⟩⟩,
   ⟨21, fun c => ⟨k0_dev22 c, k0_dev22_lt c⟩⟩, ⟨22, fun c => ⟨k0_dev23 c, k0_dev23_lt c⟩⟩, ⟨23, fun c => ⟨k0_dev24 c, k0_dev24_lt c⟩⟩,
   ⟨24, fun c => ⟨k0_dev25 c, k0_dev25_lt c⟩⟩, ⟨25, fun c => ⟨k0_dev26 c, k0_dev26_lt c⟩⟩, ⟨26, fun c => ⟨k0_dev27 c, k0_dev27_lt c⟩⟩,
   ⟨27, fun c => ⟨k0_dev28 c, k0_dev28_lt c⟩⟩, ⟨28, fun c => ⟨k0_dev29 c, k0_dev29_lt c⟩⟩, ⟨29, fun c => ⟨k0_dev30 c, k0_dev30_lt c⟩⟩,
   ⟨30, fun c => ⟨k0_dev31 c, k0_dev31_lt c⟩⟩]

/-- The hops in the order in which the partial sums are sent. -/
def hops1 : List Hop := [
   ⟨13, fun c => ⟨k0_dev32 c, k0_dev32_lt c⟩⟩, ⟨17, fun c => ⟨k0_dev33 c, k0_dev33_lt c⟩⟩, ⟨9, fun c => ⟨k0_dev34 c, k0_dev34_lt c⟩⟩,
   ⟨21, fun c => ⟨k0_dev35 c, k0_dev35_lt c⟩⟩, ⟨12, fun c => ⟨k0_dev36 c, k0_dev36_lt c⟩⟩, ⟨18, fun c => ⟨k0_dev37 c, k0_dev37_lt c⟩⟩,
   ⟨10, fun c => ⟨k0_dev38 c, k0_dev38_lt c⟩⟩, ⟨20, fun c => ⟨k0_dev39 c, k0_dev39_lt c⟩⟩, ⟨11, fun c => ⟨k0_dev40 c, k0_dev40_lt c⟩⟩,
   ⟨19, fun c => ⟨k0_dev41 c, k0_dev41_lt c⟩⟩, ⟨5, fun c => ⟨k0_dev42 c, k0_dev42_lt c⟩⟩, ⟨25, fun c => ⟨k0_dev43 c, k0_dev43_lt c⟩⟩,
   ⟨4, fun c => ⟨k0_dev44 c, k0_dev44_lt c⟩⟩, ⟨14, fun c => ⟨k0_dev45 c, k0_dev45_lt c⟩⟩, ⟨16, fun c => ⟨k0_dev46 c, k0_dev46_lt c⟩⟩,
   ⟨26, fun c => ⟨k0_dev47 c, k0_dev47_lt c⟩⟩, ⟨1, fun c => ⟨k0_dev48 c, k0_dev48_lt c⟩⟩, ⟨29, fun c => ⟨k0_dev49 c, k0_dev49_lt c⟩⟩,
   ⟨2, fun c => ⟨k0_dev50 c, k0_dev50_lt c⟩⟩, ⟨28, fun c => ⟨k0_dev51 c, k0_dev51_lt c⟩⟩, ⟨8, fun c => ⟨k0_dev52 c, k0_dev52_lt c⟩⟩,
   ⟨22, fun c => ⟨k0_dev53 c, k0_dev53_lt c⟩⟩, ⟨3, fun c => ⟨k0_dev54 c, k0_dev54_lt c⟩⟩, ⟨27, fun c => ⟨k0_dev55 c, k0_dev55_lt c⟩⟩,
   ⟨6, fun c => ⟨k0_dev56 c, k0_dev56_lt c⟩⟩, ⟨24, fun c => ⟨k0_dev57 c, k0_dev57_lt c⟩⟩, ⟨15, fun c => ⟨k0_dev58 c, k0_dev58_lt c⟩⟩,
   ⟨7, fun c => ⟨k0_dev59 c, k0_dev59_lt c⟩⟩, ⟨23, fun c => ⟨k0_dev60 c, k0_dev60_lt c⟩⟩, ⟨0, fun c => ⟨k0_dev61 c, k0_dev61_lt c⟩⟩,
   ⟨30, fun c => ⟨k0_dev62 c, k0_dev62_lt c⟩⟩]

/-- The hops in the order in which the reduced rows are sent. -/
def hops2 : List Hop := [
   ⟨13, fun c => ⟨k0_dev63 c, k0_dev63_lt c⟩⟩, ⟨17, fun c => ⟨k0_dev64 c, k0_dev64_lt c⟩⟩, ⟨9, fun c => ⟨k0_dev65 c, k0_dev65_lt c⟩⟩,
   ⟨21, fun c => ⟨k0_dev66 c, k0_dev66_lt c⟩⟩, ⟨12, fun c => ⟨k0_dev67 c, k0_dev67_lt c⟩⟩, ⟨18, fun c => ⟨k0_dev68 c, k0_dev68_lt c⟩⟩,
   ⟨10, fun c => ⟨k0_dev69 c, k0_dev69_lt c⟩⟩, ⟨20, fun c => ⟨k0_dev70 c, k0_dev70_lt c⟩⟩, ⟨11, fun c => ⟨k0_dev71 c, k0_dev71_lt c⟩⟩,
   ⟨19, fun c => ⟨k0_dev72 c, k0_dev72_lt c⟩⟩, ⟨5, fun c => ⟨k0_dev73 c, k0_dev73_lt c⟩⟩, ⟨25, fun c => ⟨k0_dev74 c, k0_dev74_lt c⟩⟩,
   ⟨4, fun c => ⟨k0_dev75 c, k0_dev75_lt c⟩⟩, ⟨14, fun c => ⟨k0_dev76 c, k0_dev76_lt c⟩⟩, ⟨16, fun c => ⟨k0_dev77 c, k0_dev77_lt c⟩⟩,
   ⟨26, fun c => ⟨k0_dev78 c, k0_dev78_lt c⟩⟩, ⟨1, fun c => ⟨k0_dev79 c, k0_dev79_lt c⟩⟩, ⟨29, fun c => ⟨k0_dev80 c, k0_dev80_lt c⟩⟩,
   ⟨2, fun c => ⟨k0_dev81 c, k0_dev81_lt c⟩⟩, ⟨28, fun c => ⟨k0_dev82 c, k0_dev82_lt c⟩⟩, ⟨8, fun c => ⟨k0_dev83 c, k0_dev83_lt c⟩⟩,
   ⟨22, fun c => ⟨k0_dev84 c, k0_dev84_lt c⟩⟩, ⟨3, fun c => ⟨k0_dev85 c, k0_dev85_lt c⟩⟩, ⟨27, fun c => ⟨k0_dev86 c, k0_dev86_lt c⟩⟩,
   ⟨6, fun c => ⟨k0_dev87 c, k0_dev87_lt c⟩⟩, ⟨24, fun c => ⟨k0_dev88 c, k0_dev88_lt c⟩⟩, ⟨15, fun c => ⟨k0_dev89 c, k0_dev89_lt c⟩⟩,
   ⟨7, fun c => ⟨k0_dev90 c, k0_dev90_lt c⟩⟩, ⟨23, fun c => ⟨k0_dev91 c, k0_dev91_lt c⟩⟩, ⟨0, fun c => ⟨k0_dev92 c, k0_dev92_lt c⟩⟩,
   ⟨30, fun c => ⟨k0_dev93 c, k0_dev93_lt c⟩⟩]

/-- The order in which the transfers are issued, and every semaphore of a kind is waited for. -/
def order : List (Fin 31) := [13, 17, 9, 21, 12, 18, 10, 20, 11, 19, 5, 25, 4, 14, 16, 26, 1, 29, 2, 28, 8, 22, 3, 27, 6, 24, 15, 7, 23, 0, 30]

/-! ## The segments -/

abbrev P (F : FTy → Type) [FloatOps F] : Type 1 := Prog (TpuEff nD τ sig (Elt F) Λ₀ .tc) PUnit

abbrev E (F : FTy → Type) [FloatOps F] : Type := TpuEff nD τ sig (Elt F) Λ₀ .tc PUnit

/-- One effect for each member of a list, in order, and then `n`. -/
def seq {α : Type} (step : α → E F) (n : P F) : List α → P F
  | [] => n
  | a :: t => .op (step a) fun _ => seq step n t

abbrev sigStep (c : Dev nD) (h : Hop) : E F := .semSignal ((h.dev c : Thread nD τ)) barS (1#32).toInt

abbrev sendStep1 (c : Dev nD) (h : Hop) : E F :=
  .enqueueDma (srcM c h.k) (.remote (Dev.tc (h.dev c)) (slotM h.k) (.dma (send1 h.k))) (.dma (recv1 h.k))
    (View.wordExact_bits rfl) ((View.wordExact_bits rfl).reshape _ _) ⟨⟨rfl, Or.inl rfl⟩, trivial⟩

abbrev sendStep2 (c : Dev nD) (h : Hop) : E F :=
  .enqueueDma redM (.remote (Dev.tc (h.dev c)) (dstM c) (.dma (send2 h.k))) (.dma (recv2 h.k))
    (Memref.isWhole_whole cc0_scratch2).wordExact (View.wordExact_bits rfl) ⟨⟨rfl, Or.inl rfl⟩, trivial⟩

abbrev waitR1 (c : Dev nD) (k : Fin 31) : E F :=
  .waitDma2 (recv1 k) (srcM c k) (slotM k) (View.wordExact_bits rfl) ((View.wordExact_bits rfl).reshape _ _)
abbrev waitR2 (c : Dev nD) (k : Fin 31) : E F :=
  .waitDma2 (recv2 k) redM (dstM c) (Memref.isWhole_whole cc0_scratch2).wordExact (View.wordExact_bits rfl)
abbrev waitS1 (c : Dev nD) (k : Fin 31) : E F :=
  .waitDma2 (send1 k) (slotM k) (srcM c k) ((View.wordExact_bits rfl).reshape _ _) (View.wordExact_bits rfl)
abbrev waitS2 (c : Dev nD) (k : Fin 31) : E F :=
  .waitDma2 (send2 k) (dstM c) redM (View.wordExact_bits rfl) (Memref.isWhole_whole cc0_scratch2).wordExact

/-- The waits at the end: for the reduced rows of the others, then for the sources of both rounds of transfers. -/
def tail (c : Dev nD) : P F :=
  seq (waitR2 c) (seq (waitS1 c) (seq (waitS2 c) (.ret ⟨⟩) order) order) order

/-- Once every transfer of reduced rows is issued, the device's own go to the result. -/
def storeOwn (c : Dev nD) : P F :=
  .op (.load redM rRed.toLoadRect (View.loadsAt_vmem h_S8x256)) fun v =>
  .op (.load outM (rOwn c).toLoadRect (View.loadsAt_vmem h_S8x256)) fun _ =>
  .op (.store outM (rOwn c) v Finset.univ (View.stores_vmem_bits_univ h_S8x256 rfl) (.inl rfl)) fun _ => tail c

/-- The reduction of the device's own rows. -/
def reduce (c : Dev nD) : P F :=
  .op (.load accM (rOwn c).toLoadRect (View.loadsAt_vmem h_S8x256)) fun v =>
  .op (.load rcvM rRcv.toLoadRect (View.loadsAt_vmem h_S31x8x256)) fun w =>
  .op (.load redM rRed.toLoadRect (View.loadsAt_vmem h_S8x256)) fun _ =>
  .op (.store redM rRed (k0_pay2 v w) Finset.univ (View.stores_vmem_bits_univ h_S8x256 rfl) (.inl rfl)) fun _ =>
    seq (sendStep2 c) (storeOwn c) hops2

/-- The partial sums of the device's own block of the hidden dimension. -/
def partials (c : Dev nD) : P F :=
  .op (.load xM rX.toLoadRect (View.loadsAt_vmem h_S256x256)) fun x =>
  .op (.load w1M rW1.toLoadRect (View.loadsAt_vmem h_S256x512)) fun w1 =>
  .op (.load w2M rW2.toLoadRect (View.loadsAt_vmem h_S512x256)) fun w2 =>
  .op (.load accM rX.toLoadRect (View.loadsAt_vmem h_S256x256)) fun _ =>
  .op (.store accM rX (k0_pay1 x w1 w2) Finset.univ (View.stores_vmem_bits_univ h_S256x256 rfl) (.inl rfl)) fun _ =>
  .op (.semWait barS (31#32).toInt) fun _ =>
    seq (sendStep1 c) (seq (waitR1 c) (reduce c) order) hops1

/-- The whole body. -/
def body : P F := .op .deviceId fun c => seq (sigStep c) (partials c) sigHops

set_option maxRecDepth 65536 in
/-- The printed body, run on the buffers that the launch hands it, is the sequence of segments. -/
theorem body_eq : cc0_body (F := F) xM (Memref.isWhole_whole _) w1M (Memref.isWhole_whole _) w2M (Memref.isWhole_whole _) outM (Memref.isWhole_whole _)
    accM (Memref.isWhole_whole _) rcvM (Memref.isWhole_whole _) redM (Memref.isWhole_whole _) cc0_scratch3 cc0_scratch4 cc0_scratch5 cc0_scratch6 = body := by
  rw [cc0_body_eq_skeleton]
  chain_rfl

/-! ## The devices of the hops -/

/-- The device `k + 1` places after `c` on the circle of thirty-two. -/
def fwd (k : Fin 31) (c : Dev nD) : Dev nD := ⟨(c.val + k.val + 1) % 32, Nat.mod_lt _ (by decide)⟩
/-- The device `k + 1` places before `c`. -/
def bwd (k : Fin 31) (c : Dev nD) : Dev nD := ⟨(c.val + (31 - k.val)) % 32, Nat.mod_lt _ (by decide)⟩

theorem bwd_fwd (k : Fin 31) (c : Dev nD) : bwd k (fwd k c) = c := by revert k c; decide +kernel
theorem fwd_bwd (k : Fin 31) (c : Dev nD) : fwd k (bwd k c) = c := by revert k c; decide +kernel

/-- Every hop of a list goes to the device that its number says. -/
abbrev Right (l : List Hop) : Prop := ∀ h ∈ l, ∀ c, h.dev c = fwd h.k c

theorem sigHops_right : Right sigHops := by decide +kernel
theorem hops1_right : Right hops1 := by decide +kernel
theorem hops2_right : Right hops2 := by decide +kernel

theorem hops1_map : hops1.map Hop.k = order := rfl
theorem hops2_map : hops2.map Hop.k = order := rfl
theorem order_nodup : order.Nodup := by decide
theorem order_cover : order.toFinset = Finset.univ := by decide
theorem sigHops_nodup : (sigHops.map Hop.k).Nodup := by decide
theorem sigHops_cover : (sigHops.map Hop.k).toFinset = Finset.univ := by decide

theorem off1_eq : ∀ (c : Dev nD) (k : Fin 31), k0_off1 c (BitVec.ofNat 32 (1 + k.val)) = ![8 * (fwd k c).val, 0] := by decide +kernel

end Cert.Exchange

end
-- ==== Proof.Layout.lean ====
/-
# Where the pieces lie

Row blocks of the partial sums and of the result (eight rows for each device), slots of the landing buffer, the element
sets of the memrefs that the transfers name, and what a device's buffers hold once every transfer has landed.
-/
module

public import proofs.«01_k».proof.Proof.Segments
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.ValueLayout
public import Idealize.ShloMosaic.Lib.Ring
public import Idealize.ShloMosaic.Lib.Transfers
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2)

variable {F : FTy → Type} [FloatOps F]

/-! ## Blocks of rows and slots -/

/-- The eight rows of device `e`. -/
def rowSet (e : Dev nD) : Finset S256x256.Idx := Finset.univ.filter fun i => (i 0).val / 8 = e.val
/-- Slot `k` of the landing buffer. -/
def slotSet (k : Fin 31) : Finset S31x8x256.Idx := Finset.univ.filter fun i => (i 0).val = k.val

theorem mem_rowSet {e : Dev nD} {i : S256x256.Idx} : Iff (i ∈ rowSet e) ((i 0).val / 8 = e.val) := by simp [rowSet]
theorem mem_slotSet {k : Fin 31} {i : S31x8x256.Idx} : Iff (i ∈ slotSet k) ((i 0).val = k.val) := by simp [slotSet]

theorem rows_disjoint (e e' : Dev nD) (h : e ≠ e') : Disjoint (rowSet e) (rowSet e') :=
  Finset.disjoint_left.mpr fun i hi hi' => h (Fin.ext ((mem_rowSet.mp hi).symm.trans (mem_rowSet.mp hi')))
theorem rows_cover : Finset.univ.biUnion rowSet = Finset.univ := by
  ext i
  have hi : (i 0).val < 256 := (i 0).isLt
  simp only [Finset.mem_biUnion, Finset.mem_univ, true_and, iff_true]
  exact ⟨⟨(i 0).val / 8, by show _ < 32; omega⟩, mem_rowSet.mpr rfl⟩
theorem slots_disjoint (k k' : Fin 31) (h : k ≠ k') : Disjoint (slotSet k) (slotSet k') :=
  Finset.disjoint_left.mpr fun i hi hi' => h (Fin.ext ((mem_slotSet.mp hi).symm.trans (mem_slotSet.mp hi')))
theorem slots_cover : Finset.univ.biUnion slotSet = Finset.univ := by
  ext i
  have hi : (i 0).val < 31 := (i 0).isLt
  simp only [Finset.mem_biUnion, Finset.mem_univ, true_and, iff_true]
  exact ⟨⟨(i 0).val, hi⟩, mem_slotSet.mpr rfl⟩

/-- Element `x` of device `e`'s eight rows. -/
def rowIx (e : Dev nD) (x : S8x256.Idx) : S256x256.Idx :=
  ix2 ⟨8 * e.val + (x 0).val, by have h : e.val < 32 := e.isLt; have h' : (x 0).val < 8 := (x 0).isLt; omega⟩ (x 1)

theorem unit_row_set {off : Fin 2 → Nat} (inb : ∀ a, off a + S8x256.size a ≤ S256x256.size a) (e : Dev nD) (h : off = ![8 * e.val, 0]) :
    (Rect.unit (s := S256x256) off S8x256.size inb).set = rowSet e := by
  subst h
  ext i
  rw [Rect.mem_set_unit, mem_rowSet]
  have h1 : (i 1).val < 256 := (i 1).isLt
  constructor
  · intro hi
    have h0 : 8 * e.val ≤ (i 0).val ∧ (i 0).val < 8 * e.val + 8 := hi 0
    omega
  · intro hi a
    match a with
    | ⟨0, _⟩ => show 8 * e.val ≤ (i 0).val ∧ (i 0).val < 8 * e.val + 8; omega
    | ⟨1, _⟩ => show 0 ≤ (i 1).val ∧ (i 1).val < 0 + 256; omega

theorem unit_row_emb {off : Fin 2 → Nat} (inb : ∀ a, off a + S8x256.size a ≤ S256x256.size a) (e : Dev nD) (h : off = ![8 * e.val, 0])
    (x : S8x256.Idx) : (Rect.unit (s := S256x256) off S8x256.size inb).emb x = rowIx e x := by
  subst h
  funext a
  refine Fin.ext ((ValueKit.rect_emb_unit_val (s := S256x256) _ _ inb x a).trans ?_)
  match a with
  | ⟨0, _⟩ => rfl
  | ⟨1, _⟩ => exact Nat.zero_add _

theorem unit_slot_set (k : Fin 31) : (Rect.unit (s := S31x8x256) ![k.val, 0, 0] S1x8x256.size (inb_slot k)).set = slotSet k := by
  ext i
  rw [Rect.mem_set_unit, mem_slotSet]
  have h1 : (i 1).val < 8 := (i 1).isLt
  have h2 : (i 2).val < 256 := (i 2).isLt
  constructor
  · intro hi
    have h0 : k.val ≤ (i 0).val ∧ (i 0).val < k.val + 1 := hi 0
    omega
  · intro hi a
    match a with
    | ⟨0, _⟩ => show k.val ≤ (i 0).val ∧ (i 0).val < k.val + 1; omega
    | ⟨1, _⟩ => show 0 ≤ (i 1).val ∧ (i 1).val < 0 + 8; omega
    | ⟨2, _⟩ => show 0 ≤ (i 2).val ∧ (i 2).val < 0 + 256; omega

theorem src_set (c : Dev nD) (k : Fin 31) : (srcM c k).view.set = rowSet (fwd k c) := by
  show ((View.whole cc0_scratch0).slice _).set = _
  rw [View.set_slice_whole]; exact unit_row_set _ _ (off1_eq c k)
theorem dst_set (c : Dev nD) : (dstM c).view.set = rowSet c := by
  show ((View.whole cc0_stg3_0).slice _).set = _
  rw [View.set_slice_whole]; exact unit_row_set _ _ (k0_off3_eq c)
theorem own_acc_set (c : Dev nD) : (accM.access (rOwn c)).set = rowSet c := by
  show ((View.whole cc0_scratch0).slice _).set = _
  rw [View.set_slice_whole]; exact unit_row_set _ _ (k0_off2_eq c)
theorem own_out_set (c : Dev nD) : (outM.access (rOwn c)).set = rowSet c := by
  show ((View.whole cc0_stg3_0).slice _).set = _
  rw [View.set_slice_whole]; exact unit_row_set _ _ (k0_off2_eq c)
theorem slot_set (k : Fin 31) : (slotM k).view.set = slotSet k := by
  show (((View.whole cc0_scratch1).slice _).reshape _ _).set = _
  rw [View.set_reshape, View.set_slice_whole]; exact unit_slot_set k

theorem src_emb (c : Dev nD) (k : Fin 31) (x : S8x256.Idx) : (srcM c k).view.emb x = rowIx (fwd k c) x :=
  unit_row_emb _ _ (off1_eq c k) x
theorem dst_emb (c : Dev nD) (x : S8x256.Idx) : (dstM c).view.emb x = rowIx c x := unit_row_emb _ _ (k0_off3_eq c) x
theorem own_acc_emb (c : Dev nD) (x : S8x256.Idx) : (accM.access (rOwn c)).emb x = rowIx c x := unit_row_emb _ _ (k0_off2_eq c) x
theorem own_out_emb (c : Dev nD) (x : S8x256.Idx) : (outM.access (rOwn c)).emb x = rowIx c x := unit_row_emb _ _ (k0_off2_eq c) x

theorem slot_emb (k : Fin 31) (x : S8x256.Idx) : (slotM k).view.emb x = ix3 k (x 0) (x 1) := by
  show (Rect.unit (s := S31x8x256) ![k.val, 0, 0] S1x8x256.size (inb_slot k)).emb (Shape.reshapeEquiv _ x) = _
  have hr : Shape.reshapeEquiv (s := S1x8x256) (s' := S8x256) (by decide) x = ix3 (n0 := 1) (n1 := 8) (n2 := 256) ⟨0, Nat.one_pos⟩ (x 0) (x 1) := by
    rw [show x = ix2 (n0 := 8) (n1 := 256) (x 0) (x 1) from eq_ix2 x]
    exact ValueIdx.reshapeEquiv_ix2_1ab (a := 8) (b := 256) _ _ _
  refine (congrArg _ hr).trans ?_
  funext a
  refine Fin.ext ((ValueKit.rect_emb_unit_val (s := S31x8x256) _ _ (inb_slot k) _ a).trans ?_)
  match a with
  | ⟨0, _⟩ => rfl
  | ⟨1, _⟩ => exact Nat.zero_add _
  | ⟨2, _⟩ => exact Nat.zero_add _

/-! ## All devices, seen from one -/

def fwdEmb (c : Dev nD) : Fin 31 ↪ Dev nD := ⟨fun k => fwd k c, by revert c; decide +kernel⟩
def bwdEmb (c : Dev nD) : Fin 31 ↪ Dev nD := ⟨fun k => bwd k c, by revert c; decide +kernel⟩
theorem others_fwd (c : Dev nD) : (Finset.univ.erase c : Finset (Dev nD)) = Finset.univ.map (fwdEmb c) := by revert c; decide +kernel
theorem others_bwd (c : Dev nD) : (Finset.univ.erase c : Finset (Dev nD)) = Finset.univ.map (bwdEmb c) := by revert c; decide +kernel
/-- Hop `30 - k` from where hop `k` leads comes back. -/
theorem fwd_rev (k : Fin 31) (c : Dev nD) : fwd k.rev (fwd k c) = c := by revert k c; decide +kernel
theorem bwd_eq (k : Fin 31) (c : Dev nD) : bwd k c = fwd k.rev c := by revert k c; decide +kernel

section Sep
variable {M : Type} [URA M]

/-- A device's own piece and, hop by hop, the pieces of the devices ahead of it; -/
theorem bigSep_fwd (c : Dev nD) (Φ : Dev nD → sProp M) : bigSep Finset.univ Φ = iprop(Φ c ∗ bigSep Finset.univ fun k => Φ (fwd k c)) := by
  rw [bigSep_erase (Finset.mem_univ c), others_fwd, bigSep_map]
  rfl
/-- or behind it. -/
theorem bigSep_bwd (c : Dev nD) (Φ : Dev nD → sProp M) : bigSep Finset.univ Φ = iprop(Φ c ∗ bigSep Finset.univ fun k => Φ (bwd k c)) := by
  rw [bigSep_erase (Finset.mem_univ c), others_bwd, bigSep_map]
  rfl

end Sep

/-! ## What the buffers hold -/

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The activations, the columns of the first weight and the rows of the second, as staged on device `c`. -/
def xBuf (c : Dev nD) : (cc0_stg0_0 : Ref sig .tc).ty.Contents (Elt F) :=
  (win0_0.blk (0 : Fin 1)).view.read (Elt F) ((s₀ m ρ).mem ((c : Thread nD τ).loc main_arg0))
def w1Buf (c : Dev nD) : (cc0_stg1_0 : Ref sig .tc).ty.Contents (Elt F) :=
  (win0_1.blk (0 : Fin 1)).view.read (Elt F) ((s₀ m ρ).mem ((c : Thread nD τ).loc main_arg1))
def w2Buf (c : Dev nD) : (cc0_stg2_0 : Ref sig .tc).ty.Contents (Elt F) :=
  (win0_2.blk (0 : Fin 1)).view.read (Elt F) ((s₀ m ρ).mem ((c : Thread nD τ).loc main_arg2))

/-- Device `c`'s partial sums; -/
def accBuf (c : Dev nD) : (cc0_scratch0 : Ref sig .tc).ty.Contents (Elt F) := k0_pay1 (xBuf m ρ c) (w1Buf m ρ c) (w2Buf m ρ c)
/-- the others' partial sums of its rows, as they land; -/
def rcvBuf (c : Dev nD) : (cc0_scratch1 : Ref sig .tc).ty.Contents (Elt F) :=
  fun i : S31x8x256.Idx => accBuf m ρ (bwd (i 0) c) (rowIx c (ix2 (i 1) (i 2)))
/-- its rows, reduced; -/
def redBuf (c : Dev nD) : (cc0_scratch2 : Ref sig .tc).ty.Contents (Elt F) := k0_pay2 (fun x => accBuf m ρ c (rowIx c x)) (rcvBuf m ρ c)
/-- and the result, the same on every device: everybody's reduced rows. -/
def outBuf : (cc0_stg3_0 : Ref sig .tc).ty.Contents (Elt F) :=
  fun i : S256x256.Idx => redBuf m ρ ⟨(i 0).val / 8, by have h : (i 0).val < 256 := (i 0).isLt; show _ < 32; omega⟩
    (ix2 ⟨(i 0).val % 8, Nat.mod_lt _ (by decide)⟩ (i 1))

theorem outBuf_row (e : Dev nD) (x : S8x256.Idx) : outBuf m ρ (rowIx e x) = redBuf m ρ e x := by
  have hx : (x 0).val < 8 := (x 0).isLt
  unfold outBuf
  show redBuf m ρ ⟨(8 * e.val + (x 0).val) / 8, _⟩ (ix2 ⟨(8 * e.val + (x 0).val) % 8, _⟩ (x 1)) = _
  have h1 : (⟨(8 * e.val + (x 0).val) / 8, by have h : e.val < 32 := e.isLt; show _ < 32; omega⟩ : Dev nD) = e := Fin.ext (by show _ / 8 = e.val; omega)
  have h2 : (⟨(8 * e.val + (x 0).val) % 8, Nat.mod_lt _ (by decide)⟩ : Fin 8) = x 0 := Fin.ext (by show _ % 8 = (x 0).val; omega)
  rw [h1, h2]
  exact congrArg (redBuf m ρ e) (eq_ix2 x).symm

/-! ## What lands -/

theorem slot_land (c : Dev nD) (k : Fin 31) (fd : (cc0_scratch1 : Ref sig .tc).ty.Contents (Elt F)) (i : S31x8x256.Idx) (hi : i ∈ slotSet k) :
    (slotM k).view.write (Elt F) fd ((srcM c k).view.read (Elt F) (accBuf m ρ c)) Finset.univ i = rcvBuf m ρ (fwd k c) i := by
  rw [← slot_set] at hi
  obtain ⟨x, -, rfl⟩ := Finset.mem_map.mp hi
  rw [View.write_emb_of_mem _ _ (Finset.mem_univ _), slot_emb]
  show accBuf m ρ c ((srcM c k).view.emb x) = accBuf m ρ (bwd k (fwd k c)) (rowIx (fwd k c) (ix2 (x 0) (x 1)))
  rw [src_emb, bwd_fwd]
  exact congrArg (fun y => accBuf m ρ c (rowIx (fwd k c) y)) (eq_ix2 x)

theorem row_land (c : Dev nD) (fd : (cc0_stg3_0 : Ref sig .tc).ty.Contents (Elt F)) (i : S256x256.Idx) (hi : i ∈ rowSet c) :
    (dstM c).view.write (Elt F) fd (redM.view.read (Elt F) (redBuf m ρ c)) Finset.univ i = outBuf m ρ i := by
  rw [← dst_set] at hi
  obtain ⟨x, -, rfl⟩ := Finset.mem_map.mp hi
  rw [View.write_emb_of_mem _ _ (Finset.mem_univ _), dst_emb, outBuf_row]
  rfl

theorem own_land (c : Dev nD) (fd : (cc0_stg3_0 : Ref sig .tc).ty.Contents (Elt F)) (i : S256x256.Idx) (hi : i ∈ rowSet c) :
    (outM.access (rOwn c)).write (Elt F) fd (redBuf m ρ c) Finset.univ i = outBuf m ρ i := by
  rw [← own_out_set] at hi
  obtain ⟨x, -, rfl⟩ := Finset.mem_map.mp hi
  rw [View.write_emb_of_mem _ _ (Finset.mem_univ _), own_out_emb, outBuf_row]
  rfl

/-! ## What the loads read and the stores leave -/

omit [FloatOps F] in
theorem zero2 : (![0, 0] : Fin 2 → Nat) = fun _ => 0 := funext fun a => by fin_cases a <;> rfl
omit [FloatOps F] in
theorem zero3 : (![0, 0, 0] : Fin 3 → Nat) = fun _ => 0 := funext fun a => by fin_cases a <;> rfl

omit [FloatOps F] in
theorem read_x (f : (cc0_stg0_0 : Ref sig .tc).ty.Contents (Elt F)) : xM.view.readAt (Elt F) rX.toLoadRect f = f :=
  Memref.readAt_unit_zero (Elt F) cc0_stg0_0 zero2 _ f
omit [FloatOps F] in
theorem read_w1 (f : (cc0_stg1_0 : Ref sig .tc).ty.Contents (Elt F)) : w1M.view.readAt (Elt F) rW1.toLoadRect f = f :=
  Memref.readAt_unit_zero (Elt F) cc0_stg1_0 zero2 _ f
omit [FloatOps F] in
theorem read_w2 (f : (cc0_stg2_0 : Ref sig .tc).ty.Contents (Elt F)) : w2M.view.readAt (Elt F) rW2.toLoadRect f = f :=
  Memref.readAt_unit_zero (Elt F) cc0_stg2_0 zero2 _ f
omit [FloatOps F] in
theorem read_rcv (f : (cc0_scratch1 : Ref sig .tc).ty.Contents (Elt F)) : rcvM.view.readAt (Elt F) rRcv.toLoadRect f = f :=
  Memref.readAt_unit_zero (Elt F) cc0_scratch1 zero3 _ f
omit [FloatOps F] in
theorem read_red (f : (cc0_scratch2 : Ref sig .tc).ty.Contents (Elt F)) : redM.view.readAt (Elt F) rRed.toLoadRect f = f :=
  Memref.readAt_unit_zero (Elt F) cc0_scratch2 zero2 _ f
omit [FloatOps F] in
theorem read_own (c : Dev nD) (f : (cc0_scratch0 : Ref sig .tc).ty.Contents (Elt F)) :
    accM.view.readAt (Elt F) (rOwn c).toLoadRect f = fun x => f (rowIx c x) := by
  funext x
  exact congrArg f (own_acc_emb c x)
omit [FloatOps F] in
theorem write_acc (f w : (cc0_scratch0 : Ref sig .tc).ty.Contents (Elt F)) : (accM.access rX).write (Elt F) f w Finset.univ = w :=
  Memref.write_access_unit_zero_univ (Elt F) cc0_scratch0 zero2 _ f w
omit [FloatOps F] in
theorem write_red (f w : (cc0_scratch2 : Ref sig .tc).ty.Contents (Elt F)) : (redM.access rRed).write (Elt F) f w Finset.univ = w :=
  Memref.write_access_unit_zero_univ (Elt F) cc0_scratch2 zero2 _ f w

end Cert.Exchange

end
-- ==== Proof.Protocol.lean ====
/-
# The protocol

Every device has one barrier cell and four families of thirty-one transfer cells. A cell's single round says who pays it
and what is handed over with the payment:

* barrier: the device `k + 1` places ahead pays duty `k` with one unit, and hands over its slot `k` and its copy of the rows
  that the owner reduces, which is where the owner's transfers over hop `k` will land;
* first transfers, at the sender: the rows that were sent come back; at the receiver: the slot, holding them;
* second transfers, at the sender: the share of the reduced rows comes back; at the receiver: the rows of the result.

The cells are ranked so that a device waits only below everything that it still owes.
-/
module

public import proofs.«01_k».proof.Proof.Layout

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## Ghost state -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Cells -/

/-- The four families of transfer semaphores: sent and received in the first round, sent and received in the second. -/
def dsem : Fin 4 → Fin 31 → DmaSem sig
  | 0, k => send1 k
  | 1, k => recv1 k
  | 2, k => send2 k
  | 3, k => recv2 k

/-- A device's cells: the barrier's, and those of the four families. -/
abbrev Ce : Type := Option (Fin 4 × Fin 31)

def csem : Ce → SemLoc sig
  | none => .reg barS
  | some jk => .dma (dsem jk.1 jk.2)

abbrev kcell (ci : Dev nD × Ce) : GSem nD τ sig := ((ci.1 : Thread nD τ), csem ci.2)
abbrev barCell (c : Dev nD) : GSem nD τ sig := kcell (c, none)
abbrev dcell (j : Fin 4) (k : Fin 31) (c : Dev nD) : GSem nD τ sig := kcell (c, some (j, k))

/-- Which of a device's cells a semaphore is, if it is one. -/
def kindOf : SemLoc sig → Option Ce
  | .reg s => if s = barS then some none else none
  | .dma q => if 4 ≤ q.val then some (some (⟨(q.val - 4) / 31 % 4, Nat.mod_lt _ (by decide)⟩, ⟨(q.val - 4) % 31, Nat.mod_lt _ (by decide)⟩)) else none

theorem kind_csem (i : Ce) : kindOf (csem i) = some i := by revert i; decide +kernel

theorem csem_injective : Function.Injective csem := fun i i' h => Option.some.inj (by rw [← kind_csem, h, kind_csem])

theorem kcell_injective : Function.Injective (kcell : Dev nD × Ce → GSem nD τ sig) := by
  rintro ⟨c, i⟩ ⟨c', i'⟩ h
  have h1 : c = c' := congrArg (fun g : GSem nD τ sig => g.1.1) h
  have h2 : i = i' := csem_injective (congrArg Prod.snd h)
  rw [h1, h2]

/-- What one transfer of eight rows credits. -/
abbrev N : ℕ := redM.view.dmaCredit
theorem N_pos : 0 < N := View.dmaCredit_pos _ (by decide)
theorem credit_slot (k : Fin 31) : (slotM k).view.dmaCredit = N := by revert k; decide +kernel
theorem credit_src (c : Dev nD) (k : Fin 31) : (srcM c k).view.dmaCredit = N := rfl
theorem credit_dst (c : Dev nD) : (dstM c).view.dmaCredit = N := rfl

/-! ## Pieces of the buffers -/

/-- Device `c`'s partial sums of the rows of device `e`. -/
def accPts (c e : Dev nD) : sProp 𝕄 := ((c : Thread nD τ).loc cc0_scratch0) ↦[rowSet e]{fullShare} accBuf m ρ c
/-- Slot `k` of device `c` at some contents, -/
def slotPts (c : Dev nD) (k : Fin 31) (f : (cc0_scratch1 : Ref sig .tc).ty.Contents (Elt F)) : sProp 𝕄 :=
  ((c : Thread nD τ).loc cc0_scratch1) ↦[slotSet k]{fullShare} f
/-- the rows of device `e` of the reduced result on device `c` at some contents, -/
def rowPts (c e : Dev nD) (f : (cc0_stg3_0 : Ref sig .tc).ty.Contents (Elt F)) : sProp 𝕄 :=
  ((c : Thread nD τ).loc cc0_stg3_0) ↦[rowSet e]{fullShare} f
/-- and the share of device `c`'s reduced rows that hop `k` reads. -/
def redPts (c : Dev nD) (k : Fin 31) : sProp 𝕄 :=
  ((c : Thread nD τ).loc cc0_scratch2) ↦{shareTok fullShare 31 k} redBuf m ρ c

/-- What the device ahead over hop `k` hands over with its barrier signal: where device `c`'s transfers over that hop land. -/
def barPay (c : Dev nD) (k : Fin 31) : sProp 𝕄 :=
  iprop((∃ f, slotPts (F := F) (fwd k c) k f) ∗ ∃ f, rowPts (F := F) (fwd k c) c f)

/-- What a transfer hands over with its credit. -/
def dmaPay (c : Dev nD) : Fin 4 → Fin 31 → sProp 𝕄
  | 0, k => accPts m ρ c (fwd k c)
  | 1, k => slotPts c k (rcvBuf m ρ c)
  | 2, k => redPts m ρ c k
  | 3, k => rowPts c (bwd k c) (outBuf m ρ)

instance barPay_storable (c : Dev nD) (k : Fin 31) : BI.Storable (upEmb : UEmb _ 𝕄) (barPay (F := F) c k) := by
  unfold barPay slotPts rowPts; infer_instance
instance dmaPay_storable (c : Dev nD) (j : Fin 4) (k : Fin 31) : BI.Storable (upEmb : UEmb _ 𝕄) (dmaPay (F := F) m ρ c j k) := by
  fin_cases j <;> simp only [dmaPay] <;> (try unfold accPts) <;> (try unfold slotPts) <;> (try unfold redPts) <;> (try unfold rowPts) <;> infer_instance

/-! ## The schedule -/

/-- One round: thirty-one units at a barrier cell, one transfer's credit at a transfer cell. -/
def sched : Rounds.Schedule (GSem nD τ sig) (Fin 31) 𝕄 where
  duties g r := if r = 0 ∧ g.1.2 = .tc then (match kindOf g.2 with | none => ∅ | some none => Finset.univ | some (some _) => {0}) else ∅
  unitless _ := False
  amount g _ _ := match kindOf g.2 with | some (some _) => N | _ => 1
  payload g _ d := match kindOf g.2 with | none => iprop(emp) | some none => barPay g.1.1 d | some (some jk) => dmaPay m ρ g.1.1 jk.1 jk.2
  amount_pos g _ _ _ := by
    split
    · exact N_pos
    · exact Nat.one_pos

instance payload_storable (g : GSem nD τ sig) (r : ℕ) (d : Fin 31) :
    BI.Storable (upEmb : UEmb _ 𝕄) ((sched (F := F) m ρ).payload g r d) := by
  dsimp only [sched]
  split <;> infer_instance

theorem duties_bar (c : Dev nD) : (sched (F := F) m ρ).duties (barCell c) 0 = Finset.univ := by
  dsimp only [sched]; rw [if_pos ⟨rfl, rfl⟩, kind_csem]
theorem duties_dma (j : Fin 4) (k : Fin 31) (c : Dev nD) : (sched (F := F) m ρ).duties (dcell j k c) 0 = {0} := by
  dsimp only [sched]; rw [if_pos ⟨rfl, rfl⟩, kind_csem]
theorem duties_later (g : GSem nD τ sig) : ∀ r, 1 ≤ r → (sched (F := F) m ρ).duties g r = ∅ :=
  fun r hr => by dsimp only [sched]; rw [if_neg fun h => by omega]
theorem amount_bar (c : Dev nD) (d : Fin 31) : (sched (F := F) m ρ).amount (barCell c) 0 d = 1 := by
  dsimp only [sched]; rw [kind_csem]
theorem amount_dma (j : Fin 4) (k : Fin 31) (c : Dev nD) (d : Fin 31) : (sched (F := F) m ρ).amount (dcell j k c) 0 d = N := by
  dsimp only [sched]; rw [kind_csem]
theorem payload_bar (c : Dev nD) (d : Fin 31) : (sched (F := F) m ρ).payload (barCell c) 0 d = barPay c d := by
  dsimp only [sched]; rw [kind_csem]
theorem payload_dma (j : Fin 4) (k : Fin 31) (c : Dev nD) (d : Fin 31) : (sched (F := F) m ρ).payload (dcell j k c) 0 d = dmaPay m ρ c j k := by
  dsimp only [sched]; rw [kind_csem]
theorem expect_bar (c : Dev nD) : (sched (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_dma (j : Fin 4) (k : Fin 31) (c : Dev nD) : (sched (F := F) m ρ).expect (dcell j k c) 0 = N := by
  unfold Schedule.expect Schedule.amountOf; rw [duties_dma, Finset.sum_singleton, amount_dma]
theorem rest_bar (c : Dev nD) : bigSep ((sched (F := F) m ρ).duties (barCell c) 0 \ ∅) (fun d => (sched (F := F) m ρ).payload (barCell c) 0 d)
    = bigSep Finset.univ fun k => barPay (F := F) c k := by
  rw [Finset.sdiff_empty, duties_bar]; exact bigSep_congr fun d _ => payload_bar m ρ c d
theorem rest_dma (j : Fin 4) (k : Fin 31) (c : Dev nD) :
    bigSep ((sched (F := F) m ρ).duties (dcell j k c) 0 \ ∅) (fun d => (sched (F := F) m ρ).payload (dcell j k c) 0 d) = dmaPay m ρ c j k := by
  rw [Finset.sdiff_empty, duties_dma, bigSep_singleton, payload_dma]

/-! ## Dues and ranks -/

/-- `n` units owed to each of the cells of a list of hops. -/
def dues (g : Fin 31 → GSem nD τ sig) (n : ℕ) : List (Fin 31) → CellTallies nD τ sig Unit
  | [] => 0
  | k :: t => dues g n t + tallyAt (g k) () n

theorem dues_pos {g : Fin 31 → GSem nD τ sig} {n : ℕ} {l : List (Fin 31)} {g' : GSem nD τ sig} {u : Unit} (h : 0 < dues g n l g' u) :
    ∃ k, g' = g k := by
  induction l with
  | nil => exact absurd h (Nat.lt_irrefl 0)
  | cons k t ih =>
    rw [dues, Pi.add_apply, Finsupp.add_apply, tallyAt_apply] at h
    by_cases hk : g' = g k ∧ u = ()
    · exact ⟨k, hk.1⟩
    · rw [if_neg hk, Nat.add_zero] at h; exact ih h

theorem dues_apply (g : Fin 31 → GSem nD τ sig) (n : ℕ) (l : List (Fin 31)) (g' : GSem nD τ sig) :
    dues g n l g' () = (l.map fun k => if g' = g k then n else 0).sum := by
  induction l with
  | nil => rfl
  | cons k t ih =>
    rw [dues, Pi.add_apply, Finsupp.add_apply, tallyAt_apply, ih, List.map_cons, List.sum_cons, Nat.add_comm]
    simp only [and_true]

/-- What device `c` owes: to the barrier of every other device a unit, and the credits of its transfers. -/
abbrev dueBar (c : Dev nD) (l : List (Fin 31)) : CellTallies nD τ sig Unit := dues (fun k => barCell (fwd k c)) 1 l
abbrev due1 (c : Dev nD) (l : List (Fin 31)) : CellTallies nD τ sig Unit := dues (fun k => dcell 1 k (fwd k c)) N l
abbrev due2 (c : Dev nD) (l : List (Fin 31)) : CellTallies nD τ sig Unit := dues (fun k => dcell 3 k (fwd k c)) N l

def O₀ (c : Dev nD) : CellTallies nD τ sig Unit := due2 c order + due1 c order + dueBar c (sigHops.map Hop.k)

def L (g : GSem nD τ sig) : Finset Unit := if g.1.2 = .tc then {()} else ∅
/-- Staging and sender's cells lowest, then the barrier, then the first landings, then the second. -/
def lv (g : GSem nD τ sig) (_ : Unit) : ℕ :=
  match kindOf g.2 with | some none => 1 | some (some (1, _)) => 2 | some (some (3, _)) => 3 | _ => 0

theorem L_of_ne (g : GSem nD τ sig) (h : g.1.2 ≠ .tc) : L g = ∅ := if_neg h
theorem L_tc (g : GSem nD τ sig) (h : g.1.2 = .tc) : L g = {()} := if_pos h

theorem lv_bar (c : Dev nD) : lv (barCell c) () = 1 := by unfold lv; rw [kind_csem]
theorem lv_recv1 (k : Fin 31) (c : Dev nD) : lv (dcell 1 k c) () = 2 := by unfold lv; rw [kind_csem]; rfl
theorem lv_recv2 (k : Fin 31) (c : Dev nD) : lv (dcell 3 k c) () = 3 := by unfold lv; rw [kind_csem]; rfl

theorem mayWait_of (c : Dev nD) (sm : SemLoc sig) (O : CellTallies nD τ sig Unit) (b : ℕ) (hsm : lv ((c : Thread nD τ), sm) () ≤ b)
    (hO : ∀ g u, 0 < O g u → g.1.2 = .tc ∧ b < lv g ()) : (levAts L lv : sProp 𝕄) ⊢ MayWait (c : Thread nD τ) sm () O :=
  MayOwe.of_cut (L := L) (lev := lv) b
    (fun p hp => by rw [Finset.mem_singleton.mp hp, L_tc _ rfl]; exact Finset.mem_singleton_self _)
    (fun g u hg => by rw [L_tc _ (hO g u hg).1]; exact Finset.mem_singleton_self _)
    (fun p hp => by rw [Finset.mem_singleton.mp hp]; exact hsm)
    (fun g u hg => (hO g u hg).2)

theorem due2_pos {c : Dev nD} {l : List (Fin 31)} {g : GSem nD τ sig} {u : Unit} (h : 0 < due2 c l g u) : g.1.2 = .tc ∧ lv g () = 3 := by
  obtain ⟨k, rfl⟩ := dues_pos h; exact ⟨rfl, lv_recv2 _ _⟩
theorem due1_pos {c : Dev nD} {l : List (Fin 31)} {g : GSem nD τ sig} {u : Unit} (h : 0 < due1 c l g u) : g.1.2 = .tc ∧ lv g () = 2 := by
  obtain ⟨k, rfl⟩ := dues_pos h; exact ⟨rfl, lv_recv1 _ _⟩
theorem dueBar_pos {c : Dev nD} {l : List (Fin 31)} {g : GSem nD τ sig} {u : Unit} (h : 0 < dueBar c l g u) : g.1.2 = .tc ∧ lv g () = 1 := by
  obtain ⟨k, rfl⟩ := dues_pos h; exact ⟨rfl, lv_bar _⟩

theorem due21_pos {c : Dev nD} {g : GSem nD τ sig} {u : Unit} (h : 0 < (due2 c order + due1 c order) g u) : g.1.2 = .tc ∧ 2 ≤ lv g () := by
  rw [Pi.add_apply, Finsupp.add_apply] at h
  rcases Nat.add_pos_iff_pos_or_pos.mp h with h | h
  · have := due2_pos h; exact ⟨this.1, by omega⟩
  · have := due1_pos h; exact ⟨this.1, by omega⟩
theorem O₀_pos {c : Dev nD} {g : GSem nD τ sig} {u : Unit} (h : 0 < O₀ c g u) : g.1.2 = .tc ∧ 1 ≤ lv g () := by
  unfold O₀ at h
  rw [Pi.add_apply, Finsupp.add_apply] at h
  rcases Nat.add_pos_iff_pos_or_pos.mp h with h | h
  · have := due21_pos h; exact ⟨this.1, by omega⟩
  · have := dueBar_pos h; exact ⟨this.1, by omega⟩

/-- A staging cell may be waited for at any time. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  refine mayWait_of c _ O 0 ?_ fun g u hg => ?_
  · dsimp only [lv, kindOf]; rw [if_neg (by omega)]
  · rcases hO with rfl | rfl
    · have := O₀_pos hg; exact ⟨this.1, by omega⟩
    · exact absurd hg (Nat.lt_irrefl 0)

/-! ## The pipeline's proof data -/

/-- All cells' invariants, under the names `K`, and that each cell has reached its round. -/
def records (K : Dev nD × Ce → ℕ) : sProp 𝕄 :=
  iprop((bigSep Finset.univ fun ci : Dev nD × Ce => cellInv ER (sched m ρ) (K ci) (kcell ci))
    ∗ bigSep Finset.univ fun ci : Dev nD × Ce => reached ER (kcell ci) 0)

instance records_persistent (K : Dev nD × Ce → ℕ) : BI.Persistent (records m ρ K) := by unfold records; infer_instance

theorem inv_at (K : Dev nD × Ce → ℕ) (ci : Dev nD × Ce) : records m ρ K ⊢ cellInv ER (sched m ρ) (K ci) (kcell ci) :=
  (Idealize.SL.BI.sep_and.trans and_elimL).trans (bigSep_elim (Φ := fun ci : Dev nD × Ce => (cellInv ER (sched m ρ) (K ci) (kcell ci) : sProp 𝕄)) (Finset.mem_univ ci))
theorem reached_at (K : Dev nD × Ce → ℕ) (ci : Dev nD × Ce) : records m ρ K ⊢ reached ER (kcell ci) 0 :=
  (Idealize.SL.BI.sep_and.trans and_elimR).trans (bigSep_elim (Φ := fun ci : Dev nD × Ce => (reached ER (kcell ci) 0 : sProp 𝕄)) (Finset.mem_univ ci))

/-- The tokens of the duties that device `c` pays. -/
def payToks (c : Dev nD) : sProp 𝕄 :=
  iprop((bigSep Finset.univ fun k : Fin 31 => dutyTok ER (barCell (fwd k c)) 0 k.rev)
    ∗ (bigSep Finset.univ fun k : Fin 31 => dutyTok ER (dcell 0 k c) 0 0)
    ∗ (bigSep Finset.univ fun k : Fin 31 => dutyTok ER (dcell 1 k (fwd k c)) 0 0)
    ∗ (bigSep Finset.univ fun k : Fin 31 => dutyTok ER (dcell 2 k c) 0 0)
    ∗ (bigSep Finset.univ fun k : Fin 31 => dutyTok ER (dcell 3 k (fwd k c)) 0 0))

/-- Where device `c` stands at its own cells. -/
def stands (r : ℕ) (c : Dev nD) : sProp 𝕄 := bigSep Finset.univ fun i : Ce => atPos ER (kcell (c, i)) r ∅ 0

/-- The claims that device `c` holds on what others owe its cells. -/
def claims (c : Dev nD) : sProp 𝕄 :=
  iprop(cred (tallyAt (barCell c) () 31) ∗ (bigSep Finset.univ fun k : Fin 31 => cred (tallyAt (dcell 1 k c) () N))
    ∗ (bigSep Finset.univ fun k : Fin 31 => cred (tallyAt (dcell 3 k c) () N)))

/-- What device `c` holds of the protocol when its body starts. -/
def start (c : Dev nD) : sProp 𝕄 :=
  iprop((∃ K, records m ρ K ∗ stands (F := F) 0 c ∗ payToks (F := F) c) ∗ claims (F := F) c ∗ levAts L lv)

/-- The three scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Every cell of device `c` at zero. -/
def zeros (c : Dev nD) : sProp 𝕄 := bigSep Finset.univ fun i : Ce => semVal (kcell (c, i)) 0

def Φ₀ (c : Dev nD) : sProp 𝕄 := iprop(start m ρ c ∗ scratch c)
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xBuf m ρ c
    | ⟨1, _⟩ => w1Buf m ρ c
    | ⟨2, _⟩ => w2Buf m ρ c
    | ⟨3, _⟩ => outBuf m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Exchange

end
-- ==== Proof.Steps.lean ====
/-
# One effect at a time, and a whole segment by induction

Each kind of effect of the body has one lemma here: what it takes and what it leaves, at a symbolic device and a symbolic hop.
A segment, which is one effect for each member of a list, follows by induction on the list (`run_seq`).
-/
module

public import proofs.«01_k».proof.Proof.Protocol
public import Idealize.ShloMosaic.Lib.Pipeline.BigSepL

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

/-- Running a program on device `c`. -/
abbrev run (c : Dev nD) (n : P F) (Q : PUnit → sProp 𝕄) : sProp 𝕄 := wp frame (wpE (defs₀ (F := F)) 𝒱₀ (c : Thread nD τ) none) Set.univ n Q

/-- One effect for each member of a list: a state `S` that follows the list, and what each effect takes and leaves. -/
theorem run_seq {α : Type} (c : Dev nD) (R : sProp 𝕄) [BI.Persistent R] (S : List α → sProp 𝕄) (Pre Post : α → sProp 𝕄) (step : α → E F) (n : P F)
    (Q : PUnit → sProp 𝕄) (l : List α)
    (h : ∀ a ∈ l, ∀ (t : List α) (n : P F), iprop(R ∗ S (a :: t) ∗ Pre a) ⊢ iprop(((S t ∗ Post a) -∗ run c n Q) -∗ run c (.op (step a) fun _ => n) Q)) :
    iprop(R ∗ S l ∗ bigSepL l Pre) ⊢ iprop(((S [] ∗ bigSepL l Post) -∗ run c n Q) -∗ run c (seq step n l) Q) := by
  induction l with
  | nil =>
    iintro ⟨#HR, HS, HP⟩ Hk
    iapply Hk
    isplitl [HS]; · iexact HS
    iexact HP
  | cons a t ih =>
    rw [bigSepL_cons', bigSepL_cons']
    iintro ⟨#HR, HS, Ha, HP⟩ Hk
    iapply (h a List.mem_cons_self t (seq step n t)) $$ [HS Ha]
    · isplitr; · iexact HR
      isplitl [HS]; · iexact HS
      iexact Ha
    iintro ⟨HS, Ha⟩
    iapply (ih fun b hb => h b (List.mem_cons_of_mem _ hb)) $$ [HS HP]
    · isplitr; · iexact HR
      isplitl [HS]; · iexact HS
      iexact HP
    iintro ⟨HS, HP⟩
    iapply Hk
    isplitl [HS]; · iexact HS
    isplitl [Ha]; · iexact Ha
    iexact HP

/-- Over every hop, in whatever order. -/
theorem hops_sep (l : List Hop) (hc : (l.map Hop.k).toFinset = Finset.univ) (hn : (l.map Hop.k).Nodup) (Φ : Fin 31 → sProp 𝕄) :
    (bigSepL l fun h => Φ h.k) = bigSep Finset.univ Φ := by
  rw [← bigSepL_map, bigSep_univ_eq_bigSepL _ hc.symm hn]
theorem order_sep (Φ : Fin 31 → sProp 𝕄) : bigSepL order Φ = bigSep Finset.univ Φ := (bigSep_univ_eq_bigSepL _ order_cover.symm order_nodup Φ).symm

variable (m : (ℓ : Loc nD τ sig) → Buf (Elt F) ℓ) (ρ : Dev nD → PrngReg) (K : Dev nD × Ce → ℕ)

/-- What every effect may use and none uses up. -/
abbrev ctx : sProp 𝕄 := iprop(records m ρ K ∗ levAts L lv)

/-- Device `c` owes `O` and what is left of a list. -/
def due (c : Dev nD) (O : CellTallies nD τ sig Unit) : sProp 𝕄 := iprop(∃ W, owes (c : Thread nD τ) O W)

/-! ## Signals -/

/-- What device `c` pays with its barrier signal over hop `k`. -/
def sigPre (c : Dev nD) (k : Fin 31) : sProp 𝕄 :=
  iprop(dutyTok ER (barCell (fwd k c)) 0 k.rev ∗ (∃ f, slotPts (F := F) c k.rev f) ∗ ∃ f, rowPts (F := F) c (fwd k c) f)

theorem sig_step (c : Dev nD) (O : CellTallies nD τ sig Unit) (h : Hop) (hh : ∀ c, h.dev c = fwd h.k c) (t : List Hop) (n : P F)
    (Q : PUnit → sProp 𝕄) :
    iprop(ctx m ρ K ∗ due c (O + dueBar c ((h :: t).map Hop.k)) ∗ sigPre c h.k)
      ⊢ iprop(((due c (O + dueBar c (t.map Hop.k)) ∗ emp) -∗ run c n Q) -∗ run c (.op (sigStep c h) fun _ => n) Q) := by
  obtain ⟨k, dev⟩ := h
  obtain rfl : dev = fwd k := funext hh
  unfold due sigPre
  iintro ⟨⟨#HR, #HL⟩, ⟨%W, HO⟩, HT, HS, HW⟩ Hk
  iapply (Rounds.wp_signal 𝒱₀ ER (sched m ρ) (c : Thread nD τ) none (dst := (fwd k c : Thread nD τ)) (κ := K (fwd k c, none))
      (d := k.rev) (by show _ ∈ (sched m ρ).duties (barCell (fwd k c)) 0; rw [duties_bar]; exact Finset.mem_univ _) ((amount_bar m ρ (fwd k c) k.rev).trans (by decide)) ()
      (O + dueBar c (t.map Hop.k)) (add_assoc _ _ _).symm)
    $$ [HO HT HS HW]
  · isplitr; · iapply (inv_at m ρ K (fwd k c, none)); iexact HR
    isplitl [HO]; · iexact HO
    isplitl [HT]; · iexact HT
    isplitl [HS HW]
    · rw [show (sched m ρ).payload ((fwd k c : Thread nD τ), .reg barS) 0 k.rev = barPay (fwd k c) k.rev from payload_bar m ρ (fwd k c) k.rev]
      unfold barPay; rw [fwd_rev]
      isplitl [HS]; · iexact HS
      iexact HW
    · iapply (reached_at m ρ K (fwd k c, none)); iexact HR
  iintro HO
  iapply Hk
  isplitl [HO]; · iexists W; iexact HO
  iempintro

/-! ## Transfers -/

/-- What the first transfer over hop `k` takes: the rows, where they land, and the two duties that it pays. -/
def sendPre1 (c : Dev nD) (k : Fin 31) : sProp 𝕄 :=
  iprop(accPts m ρ c (fwd k c) ∗ (∃ f, slotPts (F := F) (fwd k c) k f) ∗ dutyTok ER (dcell 0 k c) 0 0 ∗ dutyTok ER (dcell 1 k (fwd k c)) 0 0)
/-- What the second takes. -/
def sendPre2 (c : Dev nD) (k : Fin 31) : sProp 𝕄 :=
  iprop(redPts m ρ c k ∗ (∃ f, rowPts (F := F) (fwd k c) c f) ∗ dutyTok ER (dcell 2 k c) 0 0 ∗ dutyTok ER (dcell 3 k (fwd k c)) 0 0)
/-- A claim on one transfer's credit. -/
abbrev claim1 (j : Fin 4) (c : Dev nD) (k : Fin 31) : sProp 𝕄 := cred (tallyAt (dcell j k c) () N)

theorem send_step1 (c : Dev nD) (O : CellTallies nD τ sig Unit) (h : Hop) (hh : ∀ c, h.dev c = fwd h.k c) (t : List Hop) (n : P F)
    (Q : PUnit → sProp 𝕄) :
    iprop(ctx m ρ K ∗ due c (O + due1 c ((h :: t).map Hop.k)) ∗ sendPre1 m ρ c h.k)
      ⊢ iprop(((due c (O + due1 c (t.map Hop.k)) ∗ claim1 0 c h.k) -∗ run c n Q) -∗ run c (.op (sendStep1 c h) fun _ => n) Q) := by
  obtain ⟨k, dev⟩ := h
  obtain rfl : dev = fwd k := funext hh
  unfold due sendPre1 accPts slotPts
  iintro ⟨⟨#HR, #HL⟩, ⟨%W, HO⟩, Hsrc, ⟨%fd, Hdst⟩, HT1, HT2⟩ Hk
  iapply (Rounds.wp_send_pointsTo 𝒱₀ ER (sched m ρ) (c : Thread nD τ) none (c' := (fwd k c : Thread nD τ)) (src := srcM c k) (dst := slotM k)
      (κ₁ := K (c, some (0, k))) (κ₂ := K (fwd k c, some (1, k))) (r₁ := 0) (r₂ := 0) (d₁ := 0) (d₂ := 0) (q := fullShare)
      (fs := accBuf m ρ c) (fd := fd) (sS := csem (some (0, k))) (sem := csem (some (1, k)))
      (by rw [duties_dma]; exact Finset.mem_singleton_self _) (by rw [duties_dma]; exact Finset.mem_singleton_self _)
      () () N (credit_slot k) (amount_dma m ρ 0 k c 0) (amount_dma m ρ 1 k (fwd k c) 0) (O + due1 c (t.map Hop.k)) (add_assoc _ _ _).symm (W := W)
      (by rw [payload_dma]; unfold dmaPay accPts; rw [src_set])
      (by rw [payload_dma]; unfold dmaPay slotPts; rw [slot_set]; exact Entails.of_eq (pointsTo_congr fun i hi => slot_land m ρ c k fd i hi)))
    $$ [HO Hsrc Hdst HT1 HT2]
  · isplitr; · iapply (inv_at m ρ K (c, some (0, k))); iexact HR
    isplitr; · iapply (inv_at m ρ K (fwd k c, some (1, k))); iexact HR
    isplitl [Hsrc]; · rw [src_set]; iexact Hsrc
    isplitl [Hdst]; · rw [slot_set]; iexact Hdst
    isplitl [HO]; · iexact HO
    isplitl [HT1]; · iexact HT1
    isplitr; · iapply (reached_at m ρ K (c, some (0, k))); iexact HR
    isplitl [HT2]; · iexact HT2
    iapply (reached_at m ρ K (fwd k c, some (1, k))); iexact HR
  iintro ⟨HC, HO⟩
  iapply Hk
  isplitl [HO]; · iexists W; iexact HO
  iexact HC

theorem send_step2 (c : Dev nD) (O : CellTallies nD τ sig Unit) (h : Hop) (hh : ∀ c, h.dev c = fwd h.k c) (t : List Hop) (n : P F)
    (Q : PUnit → sProp 𝕄) :
    iprop(ctx m ρ K ∗ due c (O + due2 c ((h :: t).map Hop.k)) ∗ sendPre2 m ρ c h.k)
      ⊢ iprop(((due c (O + due2 c (t.map Hop.k)) ∗ claim1 2 c h.k) -∗ run c n Q) -∗ run c (.op (sendStep2 c h) fun _ => n) Q) := by
  obtain ⟨k, dev⟩ := h
  obtain rfl : dev = fwd k := funext hh
  unfold due sendPre2 redPts rowPts
  iintro ⟨⟨#HR, #HL⟩, ⟨%W, HO⟩, Hsrc, ⟨%fd, Hdst⟩, HT1, HT2⟩ Hk
  iapply (Rounds.wp_send_pointsTo 𝒱₀ ER (sched m ρ) (c : Thread nD τ) none (c' := (fwd k c : Thread nD τ)) (src := redM) (dst := dstM c)
      (κ₁ := K (c, some (2, k))) (κ₂ := K (fwd k c, some (3, k))) (r₁ := 0) (r₂ := 0) (d₁ := 0) (d₂ := 0) (q := shareTok fullShare 31 k)
      (fs := redBuf m ρ c) (fd := fd) (sS := csem (some (2, k))) (sem := csem (some (3, k)))
      (by rw [duties_dma]; exact Finset.mem_singleton_self _) (by rw [duties_dma]; exact Finset.mem_singleton_self _)
      () () N (credit_dst c) (amount_dma m ρ 2 k c 0) (amount_dma m ρ 3 k (fwd k c) 0) (O + due2 c (t.map Hop.k)) (add_assoc _ _ _).symm (W := W)
      (by rw [payload_dma]; unfold dmaPay redPts; rw [View.set_whole])
      (by rw [payload_dma]; show _ ⊢ rowPts (fwd k c) (bwd k (fwd k c)) (outBuf m ρ); unfold rowPts; rw [dst_set, bwd_fwd]; exact Entails.of_eq (pointsTo_congr fun i hi => row_land m ρ c fd i hi)))
    $$ [HO Hsrc Hdst HT1 HT2]
  · isplitr; · iapply (inv_at m ρ K (c, some (2, k))); iexact HR
    isplitr; · iapply (inv_at m ρ K (fwd k c, some (3, k))); iexact HR
    isplitl [Hsrc]; · rw [View.set_whole]; iexact Hsrc
    isplitl [Hdst]; · rw [dst_set]; iexact Hdst
    isplitl [HO]; · iexact HO
    isplitl [HT1]; · iexact HT1
    isplitr; · iapply (reached_at m ρ K (c, some (2, k))); iexact HR
    isplitl [HT2]; · iexact HT2
    iapply (reached_at m ρ K (fwd k c, some (3, k))); iexact HR
  iintro ⟨HC, HO⟩
  iapply Hk
  isplitl [HO]; · iexists W; iexact HO
  iexact HC

/-! ## Waits -/

/-- What a wait for a transfer takes, and what it leaves. -/
def waitPre (j : Fin 4) (c : Dev nD) (k : Fin 31) : sProp 𝕄 := iprop(claim1 j c k ∗ atPos ER (dcell j k c) 0 ∅ 0)
def waitPost (j : Fin 4) (c : Dev nD) (k : Fin 31) : sProp 𝕄 := iprop(dmaPay m ρ c j k ∗ atPos ER (dcell j k c) 1 ∅ 0)

theorem wait_step (j : Fin 4) (c : Dev nD) (k : Fin 31) (O : CellTallies nD τ sig Unit) (w : E F)
    (hw : ∀ K' : PUnit → sProp 𝕄, wpE (defs₀ (F := F)) 𝒱₀ (c : Thread nD τ) none Set.univ w K' = waitSpec (c : Thread nD τ) Set.univ (csem (some (j, k))) N K')
    (hO : (levAts L lv : sProp 𝕄) ⊢ MayWait (c : Thread nD τ) (csem (some (j, k))) () O) (n : P F) (Q : PUnit → sProp 𝕄) :
    iprop(ctx m ρ K ∗ due c O ∗ waitPre j c k) ⊢ iprop(((due c O ∗ waitPost m ρ j c k) -∗ run c n Q) -∗ run c (.op w fun _ => n) Q) := by
  unfold due waitPre waitPost
  iintro ⟨⟨#HR, #HL⟩, ⟨%W, HO⟩, HC, HA⟩ Hk
  iapply (Rounds.wp_wait_rest_token 𝒱₀ ER (sched m ρ) (c : Thread nD τ) none (κ := K (c, some (j, k)))
      hw (Set.mem_univ _) () (O := O) (W := W) (R := 0) (m := 0) (T := ∅) (by rw [Nat.zero_add]; exact (expect_dma m ρ j k c).symm)) $$ [HC HO HA]
  · isplitr; · iapply (inv_at m ρ K (c, some (j, k))); iexact HR
    isplitl [HC]; · iexact HC
    isplitl [HO]; · iexact HO
    isplitr; · iapply hO; iexact HL
    iexact HA
  iintro ⟨HO, HA, -, HP⟩
  iapply Hk
  isplitl [HO]; · iexists _; iexact HO
  isplitl [HP]; · iapply (Entails.of_eq (rest_dma m ρ j k c)); iexact HP
  iexact HA

theorem mayWait_recv1 (c : Dev nD) (k : Fin 31) : (levAts L lv : sProp 𝕄) ⊢ MayWait (c : Thread nD τ) (csem (some (1, k))) () (due2 c order) :=
  mayWait_of c _ _ 2 (le_of_eq (lv_recv1 k c)) fun g u h => ⟨(due2_pos h).1, by rw [(due2_pos h).2]; decide⟩
theorem mayWait_free (c : Dev nD) (sm : SemLoc sig) : (levAts L lv : sProp 𝕄) ⊢ MayWait (c : Thread nD τ) sm () 0 := by
  rw [MayWait_zero]; iintro -; iempintro

/-- Every first landing. -/
theorem run_waitR1 (c : Dev nD) (n : P F) (Q : PUnit → sProp 𝕄) :
    iprop(ctx m ρ K ∗ due c (due2 c order) ∗ bigSep Finset.univ (waitPre 1 c))
      ⊢ iprop(((due c (due2 c order) ∗ bigSep Finset.univ (waitPost m ρ 1 c)) -∗ run c n Q) -∗ run c (seq (waitR1 c) n order) Q) := by
  rw [← order_sep, ← order_sep]
  exact run_seq c (ctx m ρ K) (fun _ => due c (due2 c order)) _ _ _ n Q order fun k _ _ n =>
    wait_step m ρ K 1 c k _ _ (fun K' => (wpE_waitDma2_eq 𝒱₀ (c : Thread nD τ) none Set.univ K').trans (by rw [credit_slot]; rfl)) (mayWait_recv1 c k) n Q
/-- Every second landing, -/
theorem run_waitR2 (c : Dev nD) (n : P F) (Q : PUnit → sProp 𝕄) :
    iprop(ctx m ρ K ∗ due c 0 ∗ bigSep Finset.univ (waitPre 3 c))
      ⊢ iprop(((due c 0 ∗ bigSep Finset.univ (waitPost m ρ 3 c)) -∗ run c n Q) -∗ run c (seq (waitR2 c) n order) Q) := by
  rw [← order_sep, ← order_sep]
  exact run_seq c (ctx m ρ K) (fun _ => due c 0) _ _ _ n Q order fun k _ _ n =>
    wait_step m ρ K 3 c k _ _ (fun K' => (wpE_waitDma2_eq 𝒱₀ (c : Thread nD τ) none Set.univ K').trans (by rw [credit_dst]; rfl)) (mayWait_free c _) n Q
/-- every first source -/
theorem run_waitS1 (c : Dev nD) (n : P F) (Q : PUnit → sProp 𝕄) :
    iprop(ctx m ρ K ∗ due c 0 ∗ bigSep Finset.univ (waitPre 0 c))
      ⊢ iprop(((due c 0 ∗ bigSep Finset.univ (waitPost m ρ 0 c)) -∗ run c n Q) -∗ run c (seq (waitS1 c) n order) Q) := by
  rw [← order_sep, ← order_sep]
  exact run_seq c (ctx m ρ K) (fun _ => due c 0) _ _ _ n Q order fun k _ _ n =>
    wait_step m ρ K 0 c k _ _ (fun K' => (wpE_waitDma2_eq 𝒱₀ (c : Thread nD τ) none Set.univ K').trans (by rw [credit_src]; rfl)) (mayWait_free c _) n Q
/-- and every second source. -/
theorem run_waitS2 (c : Dev nD) (n : P F) (Q : PUnit → sProp 𝕄) :
    iprop(ctx m ρ K ∗ due c 0 ∗ bigSep Finset.univ (waitPre 2 c))
      ⊢ iprop(((due c 0 ∗ bigSep Finset.univ (waitPost m ρ 2 c)) -∗ run c n Q) -∗ run c (seq (waitS2 c) n order) Q) := by
  rw [← order_sep, ← order_sep]
  exact run_seq c (ctx m ρ K) (fun _ => due c 0) _ _ _ n Q order fun k _ _ n =>
    wait_step m ρ K 2 c k _ _ (wpE_waitDma2_eq 𝒱₀ (c : Thread nD τ) none Set.univ) (mayWait_free c _) n Q

/-- Every barrier signal. -/
theorem run_signals (c : Dev nD) (O : CellTallies nD τ sig Unit) (n : P F) (Q : PUnit → sProp 𝕄) :
    iprop(ctx m ρ K ∗ due c (O + dueBar c (sigHops.map Hop.k)) ∗ bigSep Finset.univ (sigPre (F := F) c))
      ⊢ iprop((due c O -∗ run c n Q) -∗ run c (seq (sigStep c) n sigHops) Q) := by
  rw [← hops_sep sigHops sigHops_cover sigHops_nodup]
  refine (run_seq c (ctx m ρ K) (fun t => due c (O + dueBar c (t.map Hop.k))) _ (fun _ => iprop(emp)) _ n Q sigHops fun h hh t n =>
    sig_step m ρ K c O h (sigHops_right h hh) t n Q).trans (wand_mono_left (wand_mono_left ?_))
  iintro ⟨H, -⟩
  rw [List.map_nil, show dueBar c [] = 0 from rfl, add_zero]
  iexact H
/-- Every first transfer. -/
theorem run_sends1 (c : Dev nD) (O : CellTallies nD τ sig Unit) (n : P F) (Q : PUnit → sProp 𝕄) :
    iprop(ctx m ρ K ∗ due c (O + due1 c order) ∗ bigSep Finset.univ (sendPre1 m ρ c))
      ⊢ iprop(((due c O ∗ bigSep Finset.univ (claim1 0 c)) -∗ run c n Q) -∗ run c (seq (sendStep1 c) n hops1) Q) := by
  rw [← hops_sep hops1 (hops1_map ▸ order_cover) (hops1_map ▸ order_nodup), ← hops_sep hops1 (hops1_map ▸ order_cover) (hops1_map ▸ order_nodup),
    ← hops1_map, show due c O = due c (O + due1 c (([] : List Hop).map Hop.k)) by rw [List.map_nil, show due1 c [] = 0 from rfl, add_zero]]
  exact run_seq c (ctx m ρ K) (fun t => due c (O + due1 c (t.map Hop.k))) _ _ _ n Q hops1 fun h hh t n =>
    send_step1 m ρ K c O h (hops1_right h hh) t n Q
/-- Every second transfer. -/
theorem run_sends2 (c : Dev nD) (n : P F) (Q : PUnit → sProp 𝕄) :
    iprop(ctx m ρ K ∗ due c (due2 c order) ∗ bigSep Finset.univ (sendPre2 m ρ c))
      ⊢ iprop(((due c 0 ∗ bigSep Finset.univ (claim1 2 c)) -∗ run c n Q) -∗ run c (seq (sendStep2 c) n hops2) Q) := by
  rw [← hops_sep hops2 (hops2_map ▸ order_cover) (hops2_map ▸ order_nodup), ← hops_sep hops2 (hops2_map ▸ order_cover) (hops2_map ▸ order_nodup),
    ← hops2_map, ← zero_add (due2 c (hops2.map Hop.k)),
    show due c 0 = due c (0 + due2 c (([] : List Hop).map Hop.k)) by rw [List.map_nil, show due2 c [] = 0 from rfl, add_zero]]
  exact run_seq c (ctx m ρ K) (fun t => due c (0 + due2 c (t.map Hop.k))) _ _ _ n Q hops2 fun h hh t n =>
    send_step2 m ρ K c 0 h (hops2_right h hh) t n Q

end Cert.Exchange

end
-- ==== Proof.Body.lean ====
/-
# The body, run once at a symbolic device

From what a device holds at launch to what it holds at the end: the seven segments in program order, the buffers split into
the pieces that change hands before each and joined again after.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Splitting and joining -/

/-- A family over the cells of a device: the barrier's, and the four families'. -/
theorem ce_sep (Φ : Ce → sProp 𝕄) : bigSep Finset.univ Φ
    = iprop(Φ none ∗ (bigSep Finset.univ fun k => Φ (some (0, k))) ∗ (bigSep Finset.univ fun k => Φ (some (1, k)))
      ∗ (bigSep Finset.univ fun k => Φ (some (2, k))) ∗ bigSep Finset.univ fun k => Φ (some (3, k))) := by
  rw [bigSep_univ_at Φ none, show (Finset.univ.erase none : Finset Ce) = Finset.univ.map Function.Embedding.some by decide +kernel, bigSep_map,
    bigSep_univ_prod, bigSep_univ_eq_bigSepL [0, 1, 2, 3] (by decide) (by decide)]
  rfl

theorem rcv_slots (c : Dev nD) (f : (cc0_scratch1 : Ref sig .tc).ty.Contents (Elt F)) :
    (((c : Thread nD τ).loc cc0_scratch1) ↦{fullShare} f : sProp 𝕄) = bigSep Finset.univ fun k => slotPts c k f :=
  Ring.pointsTo_blocks (ℓ := (c : Thread nD τ).loc cc0_scratch1) slotSet slots_disjoint slots_cover f
theorem acc_rows (c : Dev nD) : (((c : Thread nD τ).loc cc0_scratch0) ↦{fullShare} accBuf m ρ c : sProp 𝕄)
    = iprop(accPts m ρ c c ∗ bigSep Finset.univ fun k => accPts m ρ c (fwd k c)) :=
  (Ring.pointsTo_blocks (ℓ := (c : Thread nD τ).loc cc0_scratch0) rowSet rows_disjoint rows_cover _).trans (bigSep_fwd c _)
theorem out_rows (c : Dev nD) (f : (cc0_stg3_0 : Ref sig .tc).ty.Contents (Elt F)) :
    (((c : Thread nD τ).loc cc0_stg3_0) ↦{fullShare} f : sProp 𝕄) = iprop(rowPts c c f ∗ bigSep Finset.univ fun k => rowPts c (fwd k c) f) :=
  (Ring.pointsTo_blocks (ℓ := (c : Thread nD τ).loc cc0_stg3_0) rowSet rows_disjoint rows_cover f).trans (bigSep_fwd c _)
theorem out_rows_bwd (c : Dev nD) (f : (cc0_stg3_0 : Ref sig .tc).ty.Contents (Elt F)) :
    (((c : Thread nD τ).loc cc0_stg3_0) ↦{fullShare} f : sProp 𝕄) = iprop(rowPts c c f ∗ bigSep Finset.univ fun k => rowPts c (bwd k c) f) :=
  (Ring.pointsTo_blocks (ℓ := (c : Thread nD τ).loc cc0_stg3_0) rowSet rows_disjoint rows_cover f).trans (bigSep_bwd c _)

theorem rcv_some (c : Dev nD) (f : (cc0_scratch1 : Ref sig .tc).ty.Contents (Elt F)) :
    (((c : Thread nD τ).loc cc0_scratch1) ↦{fullShare} f : sProp 𝕄) ⊢ bigSep Finset.univ fun k : Fin 31 => iprop(∃ f, slotPts (F := F) c k.rev f) := by
  rw [rcv_slots, bigSep_univ_equiv Fin.revPerm]
  exact bigSep_mono fun k _ => exists_intro' f
where
  exists_intro' {k : Fin 31} (f : (cc0_scratch1 : Ref sig .tc).ty.Contents (Elt F)) :
      (slotPts (F := F) c (Fin.revPerm k) f) ⊢ iprop(∃ f, slotPts (F := F) c k.rev f) := by
    iintro H; iexists f; iexact H
theorem out_some (c : Dev nD) (f : (cc0_stg3_0 : Ref sig .tc).ty.Contents (Elt F)) :
    (bigSep Finset.univ fun k : Fin 31 => rowPts (F := F) c (fwd k c) f) ⊢ bigSep Finset.univ fun k : Fin 31 => iprop(∃ f, rowPts (F := F) c (fwd k c) f) :=
  bigSep_mono fun k _ => by
    have h : rowPts (F := F) c (fwd k c) f ⊢ iprop(∃ f, rowPts (F := F) c (fwd k c) f) := by iintro H; iexists f; iexact H
    exact h

theorem sigPre_sep (c : Dev nD) : bigSep Finset.univ (sigPre (F := F) c)
    = iprop((bigSep Finset.univ fun k : Fin 31 => dutyTok ER (barCell (fwd k c)) 0 k.rev)
      ∗ (bigSep Finset.univ fun k : Fin 31 => iprop(∃ f, slotPts (F := F) c k.rev f))
      ∗ bigSep Finset.univ fun k : Fin 31 => iprop(∃ f, rowPts (F := F) c (fwd k c) f)) := by
  unfold sigPre; rw [bigSep_sep', bigSep_sep']
theorem barPay_sep (c : Dev nD) : (bigSep Finset.univ fun k => barPay (F := F) c k)
    = iprop((bigSep Finset.univ fun k : Fin 31 => iprop(∃ f, slotPts (F := F) (fwd k c) k f))
      ∗ bigSep Finset.univ fun k : Fin 31 => iprop(∃ f, rowPts (F := F) (fwd k c) c f)) := by
  unfold barPay; rw [bigSep_sep']
/-- What the barrier hands over, at the semaphore as the program names it. -/
theorem rest_barrier (c : Dev nD) :
    bigSep ((sched (F := F) m ρ).duties ((c : Thread nD τ), .reg barS) 0 \ ∅) (fun d => (sched (F := F) m ρ).payload ((c : Thread nD τ), .reg barS) 0 d)
      = iprop((bigSep Finset.univ fun k : Fin 31 => iprop(∃ f, slotPts (F := F) (fwd k c) k f))
        ∗ bigSep Finset.univ fun k : Fin 31 => iprop(∃ f, rowPts (F := F) (fwd k c) c f)) := (rest_bar m ρ c).trans (barPay_sep c)
theorem sendPre1_sep (c : Dev nD) : bigSep Finset.univ (sendPre1 m ρ c)
    = iprop((bigSep Finset.univ fun k => accPts m ρ c (fwd k c)) ∗ (bigSep Finset.univ fun k => iprop(∃ f, slotPts (F := F) (fwd k c) k f))
      ∗ (bigSep Finset.univ fun k => dutyTok ER (dcell 0 k c) 0 0) ∗ bigSep Finset.univ fun k => dutyTok ER (dcell 1 k (fwd k c)) 0 0) := by
  unfold sendPre1; rw [bigSep_sep', bigSep_sep', bigSep_sep']
theorem sendPre2_sep (c : Dev nD) : bigSep Finset.univ (sendPre2 m ρ c)
    = iprop((bigSep Finset.univ fun k => redPts m ρ c k) ∗ (bigSep Finset.univ fun k => iprop(∃ f, rowPts (F := F) (fwd k c) c f))
      ∗ (bigSep Finset.univ fun k => dutyTok ER (dcell 2 k c) 0 0) ∗ bigSep Finset.univ fun k => dutyTok ER (dcell 3 k (fwd k c)) 0 0) := by
  unfold sendPre2; rw [bigSep_sep', bigSep_sep', bigSep_sep']
theorem waitPre_sep (j : Fin 4) (c : Dev nD) : bigSep Finset.univ (waitPre (F := F) j c)
    = iprop((bigSep Finset.univ fun k => cred (tallyAt (dcell j k c) () N)) ∗ bigSep Finset.univ fun k => atPos ER (dcell j k c) 0 ∅ 0) := by
  unfold waitPre; rw [bigSep_sep']
theorem waitPost_sep (j : Fin 4) (c : Dev nD) : bigSep Finset.univ (waitPost (F := F) m ρ j c)
    = iprop((bigSep Finset.univ fun k => dmaPay m ρ c j k) ∗ bigSep Finset.univ fun k => atPos ER (dcell j k c) 1 ∅ 0) := by
  unfold waitPost; rw [bigSep_sep']

/-- The four families' places and the barrier's are all the places. -/
theorem stands_sep (r : ℕ) (c : Dev nD) : stands (F := F) r c
    = iprop(atPos ER (barCell c) r ∅ 0 ∗ (bigSep Finset.univ fun k => atPos ER (dcell 0 k c) r ∅ 0) ∗ (bigSep Finset.univ fun k => atPos ER (dcell 1 k c) r ∅ 0)
      ∗ (bigSep Finset.univ fun k => atPos ER (dcell 2 k c) r ∅ 0) ∗ bigSep Finset.univ fun k => atPos ER (dcell 3 k c) r ∅ 0) := ce_sep _

/-- Every cell closes when its round is over. -/
theorem close_all (K : Dev nD × Ce → ℕ) (c : Dev nD) : iprop(records m ρ K ∗ stands (F := F) 1 c) ⊢ iprop(|={Set.univ}=> zeros c) := by
  unfold stands zeros
  refine (bigSep_with_persistent fun i _ => ?_).trans (bigSep_fupd _ _)
  iintro ⟨#HR, HA⟩
  iapply (Rounds.cell_close ER (sched m ρ) (Set.mem_univ (K (c, i))) (fun h => h) (R := 1) (duties_later m ρ (kcell (c, i))))
  isplitr; · iapply (inv_at m ρ K (c, i)); iexact HR
  iexact HA

/-! ## The run -/

variable (K : Dev nD × Ce → ℕ)

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ ∗ stg c cc0_stg0_0 (xBuf m ρ c) ∗ stg c cc0_stg1_0 (w1Buf m ρ c)
    ∗ stg c cc0_stg2_0 (w2Buf m ρ c) ∗ stg c cc0_stg3_0 (outBuf m ρ))

theorem before_x (c : Dev nD) (d) : (dats m ρ 0 c).before (0 : Fin 4) t0_0 d = xBuf m ρ c := by
  unfold Dat.before; rw [if_pos (fetch0_0 t0_0)]; rfl
theorem before_w1 (c : Dev nD) (d) : (dats m ρ 0 c).before (1 : Fin 4) t0_0 d = w1Buf m ρ c := by
  unfold Dat.before; rw [if_pos (fetch0_1 t0_0)]; rfl
theorem before_w2 (c : Dev nD) (d) : (dats m ρ 0 c).before (2 : Fin 4) t0_0 d = w2Buf m ρ c := by
  unfold Dat.before; rw [if_pos (fetch0_2 t0_0)]; rfl

theorem mayWait_bar (c : Dev nD) : (levAts L lv : sProp 𝕄) ⊢ MayWait (c : Thread nD τ) (.reg barS) () (due2 c order + due1 c order) :=
  mayWait_of c _ _ 1 (le_of_eq (lv_bar c)) fun g u h => due21_pos h

/-- The waits at the end. -/
theorem run_tail (c : Dev nD) (Q : PUnit → sProp 𝕄) :
    iprop(ctx m ρ K ∗ due c 0 ∗ bigSep Finset.univ (waitPre 3 c) ∗ bigSep Finset.univ (waitPre 0 c) ∗ bigSep Finset.univ (waitPre 2 c))
      ⊢ iprop(((due c 0 ∗ bigSep Finset.univ (waitPost m ρ 3 c) ∗ bigSep Finset.univ (waitPost m ρ 0 c) ∗ bigSep Finset.univ (waitPost m ρ 2 c))
          -∗ |={Set.univ}=> Q ⟨⟩) -∗ run c (tail c) Q) := by
  unfold tail
  iintro ⟨#HR, HO, H3, H0, H2⟩ Hk
  iapply (run_waitR2 m ρ K c _ Q) $$ [HO H3]
  · isplitr; · iexact HR
    isplitl [HO]; · iexact HO
    iexact H3
  iintro ⟨HO, H3⟩
  iapply (run_waitS1 m ρ K c _ Q) $$ [HO H0]
  · isplitr; · iexact HR
    isplitl [HO]; · iexact HO
    iexact H0
  iintro ⟨HO, H0⟩
  iapply (run_waitS2 m ρ K c _ Q) $$ [HO H2]
  · isplitr; · iexact HR
    isplitl [HO]; · iexact HO
    iexact H2
  iintro ⟨HO, H2⟩
  unfold run
  rw [wp_ret]
  iapply Hk
  isplitl [HO]; · iexact HO
  isplitl [H3]; · iexact H3
  isplitl [H0]; · iexact H0
  iexact H2

set_option maxHeartbeats 1600000 in
/-- The whole body, from what the launch leaves a device to what it gives back. -/
theorem sound_body (c : Dev nD) (Kt : PUnit → sProp 𝕄) :
    iprop(bodyPre m ρ c ∗ (bodyPost m ρ c -∗ Kt ⟨⟩)) ⊢ run c body Kt := by
  unfold body run
  rw [wp_deviceId]
  unfold bodyPre Φ₀ start scratch claims payToks
  rw [stands_sep]
  iintro ⟨⟨⟨⟨⟨%K, #HR, ⟨HaB, Ha0, Ha1, Ha2, Ha3⟩, HtB, Ht0, Ht1, Ht2, Ht3⟩, ⟨HcB, Hc1, Hc3⟩, #HL⟩, ⟨%fa, Hacc⟩, ⟨%fr, Hrcv⟩, ⟨%fd, Hred⟩⟩,
    Ho, ⟨%d0, %g0, %hg0, Hx⟩, ⟨%d1, %g1, %hg1, Hw1⟩, ⟨%d2, %g2, %hg2, Hw2⟩, ⟨%d3, %g3, %hg3, Hout⟩⟩, Hk⟩
  rw [before_x] at hg0
  rw [before_w1] at hg1
  rw [before_w2] at hg2
  subst hg0 hg1 hg2
  clear hg3
  unfold Dat.owesAt Pipeline.owesWithin
  icases Ho with ⟨%W, %hW, HO⟩
  rw [show (dats m ρ 0 c).owed t0_0.castSucc = O₀ c from rfl]
  -- the signals, with them the slots and the others' rows of the result
  ihave HS := (rcv_some c fr) $$ Hrcv
  ihave Hout' := (Entails.of_eq (out_rows c g3)) $$ Hout
  icases Hout' with ⟨Hown, Hrows⟩
  ihave HW := (out_some c g3) $$ Hrows
  iapply (run_signals m ρ K c (due2 c order + due1 c order) _ Kt) $$ [HO HS HW HtB]
  · isplitr; · isplitr; · iexact HR
               iexact HL
    isplitl [HO]; · unfold due O₀; iexists W; iexact HO
    rw [sigPre_sep]
    isplitl [HtB]; · iexact HtB
    isplitl [HS]; · iexact HS
    iexact HW
  iintro HO
  -- the partial sums
  unfold partials run
  iapply (wp_load 𝒱₀ (c : Thread nD τ) none Set.univ (m := xM) (Finset.subset_univ _)) $$ Hx; iintro Hx
  iapply (wp_load 𝒱₀ (c : Thread nD τ) none Set.univ (m := w1M) (Finset.subset_univ _)) $$ Hw1; iintro Hw1
  iapply (wp_load 𝒱₀ (c : Thread nD τ) none Set.univ (m := w2M) (Finset.subset_univ _)) $$ Hw2; iintro Hw2
  rw [read_x, read_w1, read_w2]
  iapply (wp_load 𝒱₀ (c : Thread nD τ) none Set.univ (m := accM) (Finset.subset_univ _)) $$ Hacc; iintro Hacc
  iapply (wp_store 𝒱₀ (c : Thread nD τ) none Set.univ (m := accM) (r := rX) (Mk := Finset.univ) (Finset.subset_univ _)) $$ Hacc; iintro Hacc
  rw [write_acc]
  -- the barrier: every device has handed over where this one's transfers land
  unfold due
  icases HO with ⟨%W1, HO⟩
  iapply (Rounds.wp_wait_rest_token 𝒱₀ ER (sched m ρ) (c : Thread nD τ) none (κ := K (c, none))
      (wpE_semWait_eq 𝒱₀ (c : Thread nD τ) none Set.univ) (Set.mem_univ _) () (O := due2 c order + due1 c order) (W := W1) (R := 0) (m := 0) (T := ∅)
      (by rw [Nat.zero_add]; exact (expect_bar m ρ c).symm)) $$ [HcB HO HaB]
  · isplitr; · iapply (inv_at m ρ K (c, none)); iexact HR
    isplitl [HcB]; · iexact HcB
    isplitl [HO]; · iexact HO
    isplitr; · iapply (mayWait_bar c); iexact HL
    iexact HaB
  iintro ⟨HO, HaB, -, Hpay⟩
  ihave Hpay' := (Entails.of_eq (rest_barrier m ρ c)) $$ Hpay
  icases Hpay' with ⟨HS, HW⟩
  -- the first transfers
  ihave Hacc' := (show (((accM.access rX).loc (c : Thread nD τ)) ↦{fullShare} k0_pay1 (xBuf m ρ c) (w1Buf m ρ c) (w2Buf m ρ c) : sProp 𝕄) ⊢ _ from
    Entails.of_eq (acc_rows m ρ c)) $$ Hacc
  icases Hacc' with ⟨Hmine, Hacc⟩
  iapply (run_sends1 m ρ K c (due2 c order) _ Kt) $$ [HO HS Hacc Ht0 Ht1]
  · isplitr; · isplitr; · iexact HR
               iexact HL
    isplitl [HO]; · unfold due; iexists _; iexact HO
    rw [sendPre1_sep]
    isplitl [Hacc]; · iexact Hacc
    isplitl [HS]; · iexact HS
    isplitl [Ht0]; · iexact Ht0
    iexact Ht1
  iintro ⟨HO, Hc0⟩
  iapply (run_waitR1 m ρ K c _ Kt) $$ [HO Hc1 Ha1]
  · isplitr; · isplitr; · iexact HR
               iexact HL
    isplitl [HO]; · iexact HO
    rw [waitPre_sep]
    isplitl [Hc1]; · iexact Hc1
    iexact Ha1
  rw [waitPost_sep]
  iintro ⟨HO, HS, Ha1⟩
  ihave Hrcv := (show (bigSep Finset.univ fun k => dmaPay m ρ c 1 k) ⊢ _ from Entails.of_eq (rcv_slots c (rcvBuf m ρ c)).symm) $$ HS
  -- the reduction
  unfold reduce run accPts
  iapply (wp_load_rect 𝒱₀ (c : Thread nD τ) none Set.univ (m := accM) (r := rOwn c) (by rw [own_acc_set])) $$ Hmine; iintro Hmine
  iapply (wp_load 𝒱₀ (c : Thread nD τ) none Set.univ (m := rcvM) (Finset.subset_univ _)) $$ Hrcv; iintro Hrcv
  rw [read_rcv]
  iapply (wp_load 𝒱₀ (c : Thread nD τ) none Set.univ (m := redM) (Finset.subset_univ _)) $$ Hred; iintro Hred
  iapply (wp_store 𝒱₀ (c : Thread nD τ) none Set.univ (m := redM) (r := rRed) (Mk := Finset.univ) (Finset.subset_univ _)) $$ Hred; iintro Hred
  rw [write_red, show k0_pay2 ((accM.access (rOwn c)).read (Elt F) (accBuf m ρ c)) (rcvBuf m ρ c) = redBuf m ρ c from
    congrArg (fun v => k0_pay2 v (rcvBuf m ρ c)) (read_own c (accBuf m ρ c))]
  -- the second transfers, each reading a share of the reduced rows
  ihave Hred' := (Transfers.pointsTo_toks_split fullShare 31) $$ Hred
  icases Hred' with ⟨Hred, Htoks⟩
  iapply (run_sends2 m ρ K c _ Kt) $$ [HO HW Htoks Ht2 Ht3]
  · isplitr; · isplitr; · iexact HR
               iexact HL
    isplitl [HO]; · iexact HO
    rw [sendPre2_sep]
    isplitl [Htoks]; · iexact Htoks
    isplitl [HW]; · iexact HW
    isplitl [Ht2]; · iexact Ht2
    iexact Ht3
  iintro ⟨HO, Hc2⟩
  unfold storeOwn run rowPts
  iapply (wp_load 𝒱₀ (c : Thread nD τ) none Set.univ (m := redM) (Finset.subset_univ _)) $$ Hred; iintro Hred
  rw [read_red]
  iapply (wp_load_rect 𝒱₀ (c : Thread nD τ) none Set.univ (m := outM) (r := rOwn c) (by rw [own_out_set])) $$ Hown; iintro Hown
  iapply (wp_store 𝒱₀ (c : Thread nD τ) none Set.univ (m := outM) (r := rOwn c) (Mk := Finset.univ) (by rw [View.setOn_univ, own_out_set])) $$ Hown
  iintro Hown
  ihave Hown := (Entails.of_eq (pointsTo_congr fun i hi => own_land m ρ c g3 i hi)) $$ Hown
  -- the waits at the end
  iapply (run_tail m ρ K c Kt) $$ [HO Hc0 Hc2 Hc3 Ha0 Ha2 Ha3]
  · isplitr; · isplitr; · iexact HR
               iexact HL
    isplitl [HO]; · iexact HO
    rw [waitPre_sep, waitPre_sep, waitPre_sep]
    isplitl [Hc3 Ha3]; · isplitl [Hc3]; · iexact Hc3
                         iexact Ha3
    isplitl [Hc0 Ha0]; · isplitl [Hc0]; · iexact Hc0
                         iexact Ha0
    isplitl [Hc2]; · iexact Hc2
    iexact Ha2
  rw [waitPost_sep, waitPost_sep, waitPost_sep]
  iintro ⟨HO, ⟨Hrows, Ha3⟩, ⟨Hacc, Ha0⟩, Htoks, Ha2⟩
  imod (close_all m ρ K c) $$ [HaB Ha0 Ha1 Ha2 Ha3] with HZ
  · isplitr; · iexact HR
    rw [stands_sep]
    isplitl [HaB]; · iexact HaB
    isplitl [Ha0]; · iexact Ha0
    isplitl [Ha1]; · iexact Ha1
    isplitl [Ha2]; · iexact Ha2
    iexact Ha3
  imodintro
  iapply Hk
  unfold bodyPost Φ₁ scratch Dat.owesAt Pipeline.owesWithin
  rw [show (dats m ρ 0 c).owed t0_0.succ = 0 from rfl]
  isplitl [Hacc Hmine Hrcv Hred Htoks HZ]
  · isplitl [Hacc Hmine Hrcv Hred Htoks]
    · isplitl [Hacc Hmine]
      · iexists (accBuf m ρ c)
        rw [acc_rows]
        isplitl [Hmine]; · unfold accPts; iexact Hmine
        iexact Hacc
      isplitl [Hrcv]; · iexists _; iexact Hrcv
      iexists (redBuf m ρ c)
      iapply (Transfers.pointsTo_toks_join fullShare 31)
      isplitl [Hred]; · iexact Hred
      iexact Htoks
    iexact HZ
  isplitl [HO]
  · unfold due
    icases HO with ⟨%W2, HO⟩
    iexists W2
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists (outBuf m ρ); isplitr; · (ipureintro; rfl)
  rw [out_rows_bwd]
  isplitl [Hown]; · unfold rowPts; iexact Hown
  iexact Hrows

set_option maxRecDepth 65536 in
/-- What the pipeline asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ c none) Set.univ (bodyAt0 (F := F) t0_0) (fun _ => bodyPost m ρ c)
  rw [show bodyAt0 (F := F) t0_0 = body from body_eq]
  iintro H
  iapply (sound_body m ρ c fun _ => bodyPost m ρ c)
  isplitl [H]; · iexact H
  iintro H; iexact H

end Cert.Exchange

end
-- ==== Proof.Launch.lean ====
/-
# The launch and the run

The launch deals every device its places, the tokens of the duties that it pays and the claims on what the others owe it; with
the body's run this gives the run of the whole program, for any float values.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores. -/
def osem (jk : Fin 4 × Fin 31) : SemLoc sig := csem (some jk)

set_option maxRecDepth 65536 in
theorem ownSemFacts : Pipeline.OwnSemFacts cfg0.spec osem := by decide +kernel

theorem share_eq (c : Dev nD) (w : Fin cfg0.W) : (dats m ρ 0 c).share w = fullShare := by unfold Dat.share; split <;> rfl

def allCells : Finset (GSem nD τ sig) := Finset.univ.map ⟨kcell, kcell_injective⟩

/-- The duties of a device's own cells: one for each barrier signal, one for each transfer. -/
def tokOf (x : Dev nD × (Fin 31 ⊕ Fin 4 × Fin 31)) : GSem nD τ sig × ℕ × Fin 31 :=
  match x.2 with
  | .inl k => (barCell x.1, 0, k)
  | .inr jk => (kcell (x.1, some jk), 0, 0)

theorem tokOf_injective : Function.Injective tokOf := by
  rintro ⟨c, a⟩ ⟨c', a'⟩ h
  have h1 := congrArg Prod.fst h
  have h2 := congrArg (fun x : GSem nD τ sig × ℕ × Fin 31 => x.2.2) h
  cases a <;> cases a' <;> dsimp only [tokOf] at h1 h2 <;> have h1 := Prod.mk.inj (kcell_injective h1)
  · rw [h1.1, h2]
  · exact absurd h1.2 (by simp)
  · exact absurd h1.2 (by simp)
  · rw [h1.1, Option.some.inj h1.2]

def allToks : Finset (GSem nD τ sig × ℕ × Fin 31) := Finset.univ.map ⟨tokOf, tokOf_injective⟩

def u₀ : UU := (initOf (Pipeline.cells cfgs cellOf_inj) (Pipeline.launchToks cfgs cellOf_inj), initOf allCells allToks)

/-- The tokens of the duties of device `c`'s own cells. -/
def toks (c : Dev nD) : sProp 𝕄 :=
  iprop((bigSep Finset.univ fun k : Fin 31 => dutyTok ER (barCell c) 0 k)
    ∗ (bigSep Finset.univ fun k : Fin 31 => dutyTok ER (dcell 0 k c) 0 0) ∗ (bigSep Finset.univ fun k : Fin 31 => dutyTok ER (dcell 1 k c) 0 0)
    ∗ (bigSep Finset.univ fun k : Fin 31 => dutyTok ER (dcell 2 k c) 0 0) ∗ (bigSep Finset.univ fun k : Fin 31 => dutyTok ER (dcell 3 k c) 0 0))

/-- What the launch deals device `c`, -/
def G (c : Dev nD) : sProp 𝕄 :=
  iprop((bigSep Finset.univ fun i : Ce => roundState ER (sched m ρ) (kcell (c, i)) 0)
    ∗ (bigSep Finset.univ fun i : Ce => iprop(atPos ER (kcell (c, i)) 0 ∅ 0 ∗ reached ER (kcell (c, i)) 0)) ∗ toks (F := F) c)

/-- and what it holds once every cell's invariant is in place. -/
def G' (c : Dev nD) : sProp 𝕄 := iprop(∃ K, records m ρ K ∗ stands (F := F) 0 c ∗ payToks (F := F) c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : Ce => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    refine bigSep_congr fun c _ => ?_
    unfold toks
    rw [bigSep_univ_sum, bigSep_univ_prod]
    refine congrArg (BI.sep _) ?_
    rw [bigSep_univ_eq_bigSepL ([0, 1, 2, 3] : List (Fin 4)) (by decide) (by decide)]
    rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore; -/
theorem unscopedSems0_bar (c : Dev nD) : (unscopedSems0 c : sProp 𝕄) = semVal (barCell c) 0 := by
  unfold unscopedSems0; rw [bigSep_eq_bigSepL_of_eq [SemLoc.reg barS] (by decide +kernel) (by decide)]; rfl
/-- with the kernel's own they are all of a device's cells. -/
theorem zeros_eq (c : Dev nD) : zeros (F := F) c
    = iprop(unscopedSems0 c ∗ Pipeline.ownSems0 (Ix := Unit) (Name := ℕ) (U := UU) (Lvl := ℕ) (Val := Elt F) (τ := τ) osem c) := by
  unfold zeros
  rw [unscopedSems0_bar, bigSep_univ_at _ none, show (Finset.univ.erase none : Finset Ce) = Finset.univ.map Function.Embedding.some by decide +kernel, bigSep_map]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (sched m ρ) κ (kcell (c, i))))
          ∗ (bigSep Finset.univ fun i : Ce => iprop(atPos ER (kcell (c, i)) 0 ∅ 0 ∗ reached ER (kcell (c, i)) 0)) ∗ toks (F := F) c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun i : Ce => roundState ER (sched m ρ) (kcell (c, i)) 0)
      ⊢ (|={Set.univ}=> bigSep Finset.univ fun i => iprop(∃ κ : ℕ, cellInv ER (sched m ρ) κ (kcell (c, i))) : sProp 𝕄) from by
        unfold zeros
        rw [← bigSep_sep']
        exact (bigSep_mono fun i _ => (Rounds.body_intro ER (sched m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to those who pay -/

/-- Every device and hop, named from where the hop leads. -/
def around (e : Fin 31 ≃ Fin 31) : Dev nD × Fin 31 ≃ Dev nD × Fin 31 where
  toFun x := (fwd x.2 x.1, e x.2)
  invFun x := (bwd (e.symm x.2) x.1, e.symm x.2)
  left_inv x := by simp [bwd_fwd]
  right_inv x := by simp [fwd_bwd]

theorem deal (e : Fin 31 ≃ Fin 31) (Φ : Dev nD → Fin 31 → sProp 𝕄) :
    (bigSep Finset.univ fun c => bigSep Finset.univ fun k => Φ c k) = bigSep Finset.univ fun c => bigSep Finset.univ fun k => Φ (fwd k c) (e k) := by
  rw [← bigSep_univ_prod fun x : Dev nD × Fin 31 => Φ x.1 x.2, bigSep_univ_equiv (around e), bigSep_univ_prod]
  rfl

theorem toks_around : (bigSep Finset.univ fun c : Dev nD => toks (F := F) c) = bigSep Finset.univ fun c : Dev nD => payToks (F := F) c := by
  unfold toks payToks
  simp only [bigSep_sep']
  rw [deal Fin.revPerm fun c k => dutyTok ER (barCell c) 0 k, deal (Equiv.refl _) fun c k => dutyTok ER (dcell 1 k c) 0 0,
    deal (Equiv.refl _) fun c k => dutyTok ER (dcell 3 k c) 0 0]
  rfl

theorem regroup :
    (bigSep Finset.univ fun c : Dev nD => iprop((bigSep Finset.univ fun i => iprop(∃ κ : ℕ, cellInv ER (sched m ρ) κ (kcell (c, i))))
          ∗ (bigSep Finset.univ fun i : Ce => iprop(atPos ER (kcell (c, i)) 0 ∅ 0 ∗ reached ER (kcell (c, i)) 0)) ∗ toks (F := F) c) : sProp 𝕄)
      ⊢ bigSep Finset.univ (G' m ρ) := by
  rw [bigSep_sep', bigSep_sep', ← bigSep_univ_prod (fun ci : Dev nD × Ce => iprop(∃ κ : ℕ, cellInv ER (sched m ρ) κ (kcell ci))),
    bigSep_congr (s := Finset.univ) (fun (c : Dev nD) _ => bigSep_sep' Finset.univ (fun i : Ce => (atPos ER (kcell (c, i)) 0 ∅ 0 : sProp 𝕄)) (fun i => reached ER (kcell (c, i)) 0)),
    bigSep_sep', ← bigSep_univ_prod (fun ci : Dev nD × Ce => (reached ER (kcell ci) 0 : sProp 𝕄)), toks_around]
  iintro ⟨HI, ⟨Hat, #HR⟩, Htok⟩
  ihave HK := (BI.bigSep_exists_pi Finset.univ (fun (ci : Dev nD × Ce) (κ : ℕ) => (cellInv ER (sched m ρ) κ (kcell ci) : sProp 𝕄))) $$ HI
  icases HK with ⟨%K, #HI⟩
  iapply (bigSep_with_persistent (R := records m ρ K) (Φ := fun c => iprop(stands (F := F) 0 c ∗ payToks (F := F) c)) (Ψ := G' m ρ) fun c _ => by
    have h : iprop(records m ρ K ∗ stands (F := F) 0 c ∗ payToks (F := F) c) ⊢ G' m ρ c := by
      unfold G'; iintro H; iexists K; iexact H
    exact h)
  isplitr
  · unfold records; isplitl; · iexact HI
    iexact HR
  · rw [bigSep_sep']
    isplitl [Hat]; · unfold stands; iexact Hat
    iexact Htok

/-- Every device's semaphores become its cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The claims at launch -/

/-- What all devices together owe one cell, over a list of every hop. -/
theorem dues_total (i : Fin 31 → Ce) (n : ℕ) (l : List (Fin 31)) (hc : l.toFinset = Finset.univ) (hn : l.Nodup) (c : Dev nD) (i' : Ce) :
    (∑ d : Dev nD, dues (fun k => kcell (fwd k d, i k)) n l (kcell (c, i')) ()) = ∑ k : Fin 31, if i' = i k then n else 0 := by
  simp only [dues_apply, ← List.sum_toFinset _ hn, hc]
  rw [Finset.sum_comm]
  refine Finset.sum_congr rfl fun k _ => ?_
  have h : ∀ d : Dev nD, (if kcell (c, i') = kcell (fwd k d, i k) then n else 0) = if d = bwd k c then (if i' = i k then n else 0) else 0 := fun d => by
    by_cases hd : d = bwd k c
    · subst hd; simp only [kcell_injective.eq_iff, Prod.mk.injEq, fwd_bwd, true_and, if_true]
    · rw [if_neg hd, if_neg fun h => hd (by rw [(Prod.mk.inj (kcell_injective h)).1, bwd_fwd])]
  rw [Finset.sum_congr rfl fun d _ => h d, Finset.sum_ite_eq' Finset.univ (bwd k c), if_pos (Finset.mem_univ _)]

theorem owed_total (c : Dev nD) (i' : Ce) : (∑ d : Dev nD, O₀ d (kcell (c, i')) ())
    = (∑ k : Fin 31, if i' = some (3, k) then N else 0) + (∑ k : Fin 31, if i' = some (1, k) then N else 0) + ∑ k : Fin 31, if i' = none then 1 else 0 := by
  rw [← dues_total (fun k => some (3, k)) N order order_cover order_nodup c i', ← dues_total (fun k => some (1, k)) N order order_cover order_nodup c i',
    ← dues_total (fun _ => none) 1 _ sigHops_cover sigHops_nodup c i', ← Finset.sum_add_distrib, ← Finset.sum_add_distrib]
  rfl

theorem launch_cell (c : Dev nD) (i : Ce) (n : ℕ) (h : (∑ d : Dev nD, O₀ d (kcell (c, i)) ()) = n) :
    tallyOn (kcell (c, i)) (launchCredit (Pipeline.owing O₀) 0 (kcell (c, i))) = (tallyAt (kcell (c, i)) () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 31 : CellTallies nD τ sig Unit) :=
  launch_cell c none 31 (by rw [owed_total]; simp)
theorem launch_recv1 (c : Dev nD) (k : Fin 31) :
    tallyOn (dcell 1 k c) (launchCredit (Pipeline.owing O₀) 0 (dcell 1 k c)) = (tallyAt (dcell 1 k c) () N : CellTallies nD τ sig Unit) :=
  launch_cell c (some (1, k)) N (by rw [owed_total]; simp)
theorem launch_recv2 (c : Dev nD) (k : Fin 31) :
    tallyOn (dcell 3 k c) (launchCredit (Pipeline.owing O₀) 0 (dcell 3 k c)) = (tallyAt (dcell 3 k c) () N : CellTallies nD τ sig Unit) :=
  launch_cell c (some (3, k)) N (by rw [owed_total]; simp)

theorem creds (c : Dev nD) : (Pipeline.launchCred O₀ c : sProp 𝕄) ⊢ claims (F := F) c := by
  have h : (Pipeline.launchCred O₀ c : sProp 𝕄)
      ⊢ bigSep Finset.univ fun i : Ce => cred (tallyOn (kcell (c, i)) (launchCredit (Pipeline.owing O₀) 0 (kcell (c, i)))) := by
    unfold Pipeline.launchCred
    refine (bigSep_subset (Finset.subset_univ (Finset.univ.map ⟨csem, csem_injective⟩))).trans ?_
    rw [bigSep_map]
    exact BI.Entails.refl _
  rw [ce_sep] at h
  unfold claims
  iintro H
  ihave H' := h $$ H
  icases H' with ⟨HB, -, H1, -, H3⟩
  isplitl [HB]; · iapply (Entails.of_eq (congrArg cred (launch_bar c))); iexact HB
  isplitl [H1]
  · iapply (Entails.of_eq (bigSep_congr (s := Finset.univ) fun k _ => congrArg (fun t => (cred t : sProp 𝕄)) (launch_recv1 c k))); iexact H1
  · iapply (Entails.of_eq (bigSep_congr (s := Finset.univ) fun k _ => congrArg (fun t => (cred t : sProp 𝕄)) (launch_recv2 c k))); iexact H3

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [zeros_eq]
  unfold scratch
  iintro ⟨Hr, HzB, HzO⟩
  isplitl [HzB]; · iexact HzB
  isplitl [HzO]; · iexact HzO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s array of window `w` holds at the end. -/
def finalA (c : Dev nD) (w : Fin cfg0.W) : Buf (Elt F) ((cfg0.win w).arr.view.loc (c : Thread nD τ)) := (dats m ρ 0 c).arrAt w cfg0.N

set_option maxRecDepth 65536 in
/-- From any memory with zero counters every weakly fair execution ends, with every array as computed and every counter zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_x (c : Dev nD) : finalA m ρ c (0 : Fin 4) = m ((c : Thread nD τ).loc main_arg0) := (dats (F := F) m ρ 0 c).arrAt_in (0 : Fin 4) rfl _
theorem final_w1 (c : Dev nD) : finalA m ρ c (1 : Fin 4) = m ((c : Thread nD τ).loc main_arg1) := (dats (F := F) m ρ 0 c).arrAt_in (1 : Fin 4) rfl _
theorem final_w2 (c : Dev nD) : finalA m ρ c (2 : Fin 4) = m ((c : Thread nD τ).loc main_arg2) := (dats (F := F) m ρ 0 c).arrAt_in (2 : Fin 4) rfl _

end Cert.Exchange

end
-- ==== Proof.Value.lean ====
/-
# What the result holds, over the extended reals

Row block `e` of the result is the sum, over the thirty-two devices, of row block `e` of their partial sums; a device's
partial sum at an index is a sum over its own 512 hidden units. Together these are the sum over all 16384 hidden units,
which is what the reference computes. Only the grouping of one sum changes, so nothing is asked of the values.
-/
module

public import proofs.«01_k».proof.Proof.Launch
public import proofs.«01_k».proof.Proof.Gen.ReferenceIdeal.Run
public import Idealize.ShloMosaic.Lib.MatmulPlain
public import Idealize.ShloMosaic.Lib.KernelVsHost
public import Idealize.ShloMosaic.Lib.LayoutAt

@[expose] public section

noncomputable section

namespace Cert.Exchange

open Cert.KernelIdeal Cert.KernelIdeal.Gen
open Idealize.ShloMosaic Idealize.ShloMosaic.TcCoe Idealize.ShloMosaic.ValueIdx
open Idealize.SL Idealize.SL.Sem
open scoped BigOperators

section Arrays

variable {F : FTy → Type} [FloatOps F]
variable (m : (ℓ : Loc nD τ sig) → Buf (Elt F) ℓ) (ρ : Dev nD → PrngReg)

/-- The one write-back covers the result array. -/
theorem final_out (c : Dev nD) : finalA m ρ c (3 : Fin 4) = outBuf m ρ :=
  (dats (F := F) m ρ 0 c).arrAt_eq_of_after_last (3 : Fin 4) (0 : Fin 1) ((by decide +kernel : ∀ t : Fin grid0.N, win0_3.WholeAt t) (0 : Fin 1)) (outBuf m ρ) fun j => rfl

theorem index_x : win0_0.index (0 : Fin 1) = ![0, 0] := by decide +kernel
theorem index_w1 : win0_1.index (0 : Fin 1) = ![0, 0] := by decide +kernel
theorem index_w2 : win0_2.index (0 : Fin 1) = ![0, 0] := by decide +kernel

/-- The one block of each argument is the whole array. -/
theorem xBuf_eq (c : Dev nD) : xBuf m ρ c = m ((c : Thread nD τ).loc main_arg0) := by
  funext j
  refine congrArg (m ((c : Thread nD τ).loc main_arg0)) (a₂ := j) ?_
  blk_ext [index_x]

theorem w1Buf_eq (c : Dev nD) : w1Buf m ρ c = m ((c : Thread nD τ).loc main_arg1) := by
  funext j
  refine congrArg (m ((c : Thread nD τ).loc main_arg1)) (a₂ := j) ?_
  blk_ext [index_w1]

theorem w2Buf_eq (c : Dev nD) : w2Buf m ρ c = m ((c : Thread nD τ).loc main_arg2) := by
  funext j
  refine congrArg (m ((c : Thread nD τ).loc main_arg2)) (a₂ := j) ?_
  blk_ext [index_w2]

end Arrays

/-! ## The payloads as sums -/

/-- One hidden unit's share of an element: its rectified input times its output weight. -/
def unit {K : ℕ} (x : FVec Ideal ⟨2, ![256, 256]⟩ .f32) (w1 : FVec Ideal ⟨2, ![256, K]⟩ .f32) (w2 : FVec Ideal ⟨2, ![K, 256]⟩ .f32)
    (r j : Fin 256) (k : Fin K) : EReal :=
  max (∑ l : Fin 256, x (ix2 r l) * w1 (ix2 l k)) 0 * w2 (ix2 k j)

/-- A product into a zero accumulator, read at a row and a column. -/
theorem product_apply {M K N : ℕ} (d : DotDims ⟨2, ![M, K]⟩ ⟨2, ![K, N]⟩ ⟨2, ![M, N]⟩) (hd : d = DotDims.plain M K N)
    (a : FVec Ideal ⟨2, ![M, K]⟩ .f32) (b : FVec Ideal ⟨2, ![K, N]⟩ .f32) (r : Fin M) (j : Fin N) :
    matmul d none a b (constant ⟨2, ![M, N]⟩ .f32 0x00000000#32) (ix2 r j) = ∑ k : Fin K, a (ix2 r k) * b (ix2 k j) := by
  subst hd
  refine (Ideal.matmul_plain_apply none a b _ r j).trans ?_
  show Ideal.ofBits .f32 0x00000000#32 + _ = _
  rw [Ideal.ofBits_zero_f32, zero_add]

/-- Two products with a rectifier between them, read at a row and a column: the sum of the hidden units' shares. -/
theorem layers_apply {K : ℕ} (d₁ : DotDims ⟨2, ![256, 256]⟩ ⟨2, ![256, K]⟩ ⟨2, ![256, K]⟩) (hd₁ : d₁ = DotDims.plain 256 256 K)
    (d₂ : DotDims ⟨2, ![256, K]⟩ ⟨2, ![K, 256]⟩ ⟨2, ![256, 256]⟩) (hd₂ : d₂ = DotDims.plain 256 K 256)
    (x : FVec Ideal ⟨2, ![256, 256]⟩ .f32) (w1 : FVec Ideal ⟨2, ![256, K]⟩ .f32) (w2 : FVec Ideal ⟨2, ![K, 256]⟩ .f32) (r j : Fin 256) :
    matmul d₂ none (maximumf (matmul d₁ none x w1 (constant ⟨2, ![256, K]⟩ .f32 0x00000000#32))
        (broadcast ⟨2, ![256, K]⟩ (Scalar.ofBits .f32 0x00000000#32))) w2 (constant ⟨2, ![256, 256]⟩ .f32 0x00000000#32) (ix2 r j)
      = ∑ k : Fin K, unit x w1 w2 r j k := by
  rw [product_apply d₂ hd₂]
  refine Finset.sum_congr rfl fun k _ => congrArg (· * w2 (ix2 k j)) ?_
  show max (matmul d₁ none x w1 (constant ⟨2, ![256, K]⟩ .f32 0x00000000#32) (ix2 r k)) (Ideal.ofBits .f32 0x00000000#32) = _
  rw [product_apply d₁ hd₁, Ideal.ofBits_zero_f32]

/-- A device's partial sum at an index. -/
theorem pay1_apply (x : Vec Ideal S256x256 .f32) (w1 : Vec Ideal S256x512 .f32) (w2 : Vec Ideal S512x256 .f32) (r j : Fin 256) :
    k0_pay1 (F := Ideal) x w1 w2 (ix2 r j) = ∑ k : Fin 512, unit x w1 w2 r j k := by
  unfold k0_pay1
  simp only [shapeCast_self]
  exact layers_apply _ rfl _ rfl x w1 w2 r j

/-- The reduction at an index: the device's own element and the thirty-one that arrived. -/
theorem pay2_apply (v : Vec Ideal S8x256 .f32) (w : Vec Ideal S31x8x256 .f32) (y : S8x256.Idx) :
    k0_pay2 (F := Ideal) v w y = v y + ∑ k : Fin 31, w (ix3 k (y 0) (y 1)) := by
  unfold k0_pay2
  simp only [shapeCast_self]
  refine congrArg (v y + ·) ?_
  refine (Ideal.multiReduction_add_single w _ _ _ _ y).trans (Finset.sum_congr rfl fun k _ => congrArg w ?_)
  funext a
  refine Fin.ext ?_
  match a with
  | ⟨0, _⟩ => rfl
  | ⟨1, _⟩ => rfl
  | ⟨2, _⟩ => rfl

/-! ## The two groupings of the sum -/

/-- A device's own term and those of the thirty-one devices behind it are the terms of all devices. -/
theorem sum_bwd (c : Dev nD) (f : Dev nD → EReal) : f c + ∑ k : Fin 31, f (bwd k c) = ∑ e : Dev nD, f e := by
  rw [← Finset.add_sum_erase _ f (Finset.mem_univ c), others_bwd, Finset.sum_map]
  rfl

/-- Hidden unit `k` of device `e`, counted over all devices. -/
def hid (e : Fin 32) (k : Fin 512) : Fin 16384 := ⟨e.val * 512 + k.val, by omega⟩

/-- Hidden units counted over all devices are the devices' hidden units. -/
theorem sum_hid (f : Fin 16384 → EReal) : ∑ e : Fin 32, ∑ k : Fin 512, f (hid e k) = ∑ k : Fin 16384, f k := by
  rw [← (finProdFinEquiv (m := 32) (n := 512)).sum_comp f, Fintype.sum_prod_type]
  refine Finset.sum_congr rfl fun e _ => Finset.sum_congr rfl fun k _ => congrArg f (Fin.ext ?_)
  show e.val * 512 + k.val = k.val + 512 * e.val
  omega

section Result

variable (m : (ℓ : Loc nD τ sig) → Buf (Elt Ideal) ℓ) (ρ : Dev nD → PrngReg)

/-- A partial sum and the result at an index, as numbers. -/
def accAt (e : Dev nD) (i : S256x256.Idx) : EReal := accBuf m ρ e i
def outAt (i : S256x256.Idx) : EReal := outBuf m ρ i

/-- The result at an index: the sum over the devices of their partial sums there. -/
theorem outBuf_apply (i : S256x256.Idx) : outAt m ρ i = ∑ e : Dev nD, accAt m ρ e i := by
  have hi : (i 0).val < 256 := (i 0).isLt
  obtain ⟨c, y, rfl⟩ : ∃ (c : Dev nD) (y : S8x256.Idx), i = rowIx c y :=
    ⟨⟨(i 0).val / 8, by show _ < 32; omega⟩, ix2 ⟨(i 0).val % 8, Nat.mod_lt _ (by decide)⟩ (i 1), by
      funext a
      refine Fin.ext ?_
      match a with
      | ⟨0, _⟩ => show (i 0).val = 8 * ((i 0).val / 8) + (i 0).val % 8; omega
      | ⟨1, _⟩ => rfl⟩
  rw [← sum_bwd c]
  refine (outBuf_row m ρ c y).trans ((pay2_apply _ _ y).trans (congrArg (accAt m ρ c (rowIx c y) + ·) (Finset.sum_congr rfl fun k _ => ?_)))
  exact congrArg (fun z => accAt m ρ (bwd k c) (rowIx c z)) (eq_ix2 y).symm

/-- Against whole arrays of which the devices hold their parts, the result is the whole layers' value. -/
theorem outBuf_whole (x : FVec Ideal ⟨2, ![256, 256]⟩ .f32) (w1 : FVec Ideal ⟨2, ![256, 16384]⟩ .f32) (w2 : FVec Ideal ⟨2, ![16384, 256]⟩ .f32)
    (hx : ∀ c : Dev nD, m ((c : Thread nD τ).loc main_arg0) = x)
    (hw1 : ∀ c : Dev nD, m ((c : Thread nD τ).loc main_arg1) = Layout.block ⟨2, ![256, 512]⟩ ⟨2, ![256, 16384]⟩ 1 32 c w1)
    (hw2 : ∀ c : Dev nD, m ((c : Thread nD τ).loc main_arg2) = Layout.block ⟨2, ![512, 256]⟩ ⟨2, ![16384, 256]⟩ 0 32 c w2)
    (r j : Fin 256) : outAt m ρ (ix2 r j) = ∑ k : Fin 16384, unit x w1 w2 r j k := by
  rw [outBuf_apply, ← sum_hid]
  refine Finset.sum_congr rfl fun e _ => ?_
  unfold accAt accBuf
  rw [xBuf_eq, w1Buf_eq, w2Buf_eq, hx e, hw1 e, hw2 e]
  refine (pay1_apply x _ _ r j).trans (Finset.sum_congr rfl fun k _ => ?_)
  have h1 : ∀ l : Fin 256, Layout.block ⟨2, ![256, 512]⟩ ⟨2, ![256, 16384]⟩ 1 32 e w1 (by decide) (ix2 l k) = w1 (ix2 l (hid e k)) :=
    fun l => congrArg w1 (Shape.idx_ext₂ rfl rfl)
  have h2 : Layout.block ⟨2, ![512, 256]⟩ ⟨2, ![16384, 256]⟩ 0 32 e w2 (by decide) (ix2 k j) = w2 (ix2 (hid e k) j) :=
    congrArg w2 (Shape.idx_ext₂ rfl rfl)
  unfold unit
  rw [h2]
  simp only [h1]

end Result

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem
open scoped BigOperators

/-! ## The frames -/

/-- The run over any float values, its values dropped: the arguments stay and every counter ends at zero. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
      ∧ r.2.sem = fun _ => 0) :=
  (θ_run Cert.KernelIdeal.defs _ _).mono
    (fun _ h => ⟨fun c => ⟨(h.1 c (0 : Fin 4)).trans (Exchange.final_x m ρ c),
      (h.1 c (1 : Fin 4)).trans (Exchange.final_w1 m ρ c),
      (h.1 c (2 : Fin 4)).trans (Exchange.final_w2 m ρ c)⟩, h.2⟩)
    (Exchange.run_main m ρ)

/-- The two programs have one text: their kernels are one table, -/
theorem bodies_eq {F : FTy → Type} [FloatOps F] : Cert.Kernel.defs₀ (F := F) = Cert.KernelIdeal.defs₀ (F := F) :=
  congrArg Defs.onTc (funext fun l => funext fun a => match l, a with | 0, (_, _) => rfl)

/-- and so are the kernels with their pipelines. -/
theorem defs_eq {F : FTy → Type} [FloatOps F] : Cert.Kernel.defs (F := F) = Cert.KernelIdeal.defs (F := F) :=
  congrArg (Pipeline.defs (Cert.KernelIdeal.pcfgs (F := F))) bodies_eq

/-- Over the machine's own floats. -/
theorem frame_kernel : Cert.quiescent_Kernel := fun m ρ _ => by
  rw [defs_eq]
  exact frame_run (F := Bits) m ρ

/-- Over the extended reals. -/
theorem frame_kernelIdeal : Cert.quiescent_KernelIdeal := fun m ρ _ => frame_run (F := Ideal) m ρ

/-- The reference declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The values -/

/-- The reference's result at an index: the sum over all hidden units. -/
theorem reference_apply (x : FVec Ideal ⟨2, ![256, 256]⟩ .f32) (w1 : FVec Ideal ⟨2, ![256, 16384]⟩ .f32) (w2 : FVec Ideal ⟨2, ![16384, 256]⟩ .f32)
    (r j : Fin 256) :
    Host.dotGeneral Cert.ReferenceIdeal.dot_S256x16384_S16384x256_S256x256_1_0_0_1_n_n none
        (maximumf (Host.dotGeneral Cert.ReferenceIdeal.dot_S256x256_S256x16384_S256x16384_1_0_0_1_n_n none x w1)
          (broadcastInDim Cert.ReferenceIdeal.S256x16384 ![] Cert.ReferenceIdeal.Gen.bcast_S_S256x16384 (constant Cert.ReferenceIdeal.S_ .f32 0x00000000#32)))
        w2 (ix2 r j)
      = ∑ k : Fin 16384, Exchange.unit x w1 w2 r j k := by
  rw [← matmul_zero_eq_dotGeneral, ← matmul_zero_eq_dotGeneral, broadcastInDim_constant]
  exact Exchange.layers_apply _ rfl _ rfl x w1 w2 r j

/-- From whole arrays and the devices' parts of them, both programs end at one value. -/
theorem value : Cert.algebraic_KernelIdeal_ReferenceIdeal := by
  intro m ρ m' ρ' _ hparts
  refine ⟨Exchange.outBuf (F := Ideal) m ρ, ?_, ?_⟩
  · exact (θ_run Cert.KernelIdeal.defs _ _).mono
      (fun _ h c => ⟨(h.1 c (3 : Fin 4)).trans (Exchange.final_out (F := Ideal) m ρ c),
        (h.1 c (0 : Fin 4)).trans (Exchange.final_x (F := Ideal) m ρ c),
        (h.1 c (1 : Fin 4)).trans (Exchange.final_w1 (F := Ideal) m ρ c),
        (h.1 c (2 : Fin 4)).trans (Exchange.final_w2 (F := Ideal) m ρ c)⟩)
      (Exchange.run_main (F := Ideal) m ρ)
  · refine (θ_run Cert.ReferenceIdeal.defs _ _).mono (fun _ h => ⟨(h 0).1.trans ?_, (h 0).2⟩)
      (Cert.ReferenceIdeal.Value.run (F := Ideal) m' ρ')
    funext i
    obtain ⟨r, j, rfl⟩ : ∃ (r j : Fin 256), i = ix2 r j := ⟨i 0, i 1, eq_ix2 i⟩
    exact (reference_apply _ _ _ r j).trans (Exchange.outBuf_whole m ρ _ _ _
      (fun c => (hparts c).1) (fun c => (hparts c).2.1) (fun c => (hparts c).2.2) r j).symm

/-- All the claims. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
